-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x1024 : Shape := ⟨2, ![1024, 1024]⟩
abbrev S8x1024 : Shape := ⟨2, ![8, 1024]⟩
abbrev S8x500x1024 : Shape := ⟨3, ![8, 500, 1024]⟩
abbrev S8x500 : Shape := ⟨2, ![8, 500]⟩
abbrev S8x500x500 : Shape := ⟨3, ![8, 500, 500]⟩
abbrev S8x2000x500 : Shape := ⟨3, ![8, 2000, 500]⟩
abbrev S8x2000 : Shape := ⟨2, ![8, 2000]⟩
abbrev S8x64x2000 : Shape := ⟨3, ![8, 64, 2000]⟩
abbrev S8x64 : Shape := ⟨2, ![8, 64]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x500x1024 : S_.BroadcastsInDim S8x500x1024 (![] : Fin 0 → Fin S8x500x1024.rank)
  reducesTo_S8x500x1024_S_d0_1_2 : S8x500x1024.ReducesTo [0, 1, 2] S_
  bcast_S_S8x500 : S_.BroadcastsInDim S8x500 (![] : Fin 0 → Fin S8x500.rank)
  reducesTo_S8x500_S_d0_1 : S8x500.ReducesTo [0, 1] S_
  bcast_S_S8x500x500 : S_.BroadcastsInDim S8x500x500 (![] : Fin 0 → Fin S8x500x500.rank)
  reducesTo_S8x500x500_S_d0_1_2 : S8x500x500.ReducesTo [0, 1, 2] S_
  bcast_S_S8x2000x500 : S_.BroadcastsInDim S8x2000x500 (![] : Fin 0 → Fin S8x2000x500.rank)
  reducesTo_S8x2000x500_S_d0_1_2 : S8x2000x500.ReducesTo [0, 1, 2] S_
  bcast_S_S8x2000 : S_.BroadcastsInDim S8x2000 (![] : Fin 0 → Fin S8x2000.rank)
  reducesTo_S8x2000_S_d0_1 : S8x2000.ReducesTo [0, 1] S_
  bcast_S_S8x64x2000 : S_.BroadcastsInDim S8x64x2000 (![] : Fin 0 → Fin S8x64x2000.rank)
  reducesTo_S8x64x2000_S_d0_1_2 : S8x64x2000.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S8x2000 .f32) (main_arg8 : FVec F S8x64x2000 .f32) (main_arg9 : FVec F S8x64 .f32) (main_v29 : IVec S_ 1) (main_v32 : IVec S8x2000x500 1) (main_c_12 : IVec S_ 1) : IVec S_ 1 :=
  let main_v33 : IVec S_ 1 := (fun x v => Host.reduce IntOp.andi x v reducesTo_S8x2000x500_S_d0_1_2 h_S_) main_v32 main_c_12
  let main_v34 : IVec S_ 1 := andi main_v29 main_v33
  let main_v35 : FVec F S8x2000 .f32 := Host.absf main_arg7
  let main_cst_13 : FVec F S_ .f32 := constant S_ .f32 0x7F800000#32
  let main_v36 : FVec F S8x2000 .f32 := broadcastInDim S8x2000 ![] bcast_S_S8x2000 main_cst_13
  let main_v37 : IVec S8x2000 1 := cmpf .olt main_v35 main_v36
  let main_c_14 : IVec S_ 1 := constantI S_ 1 1#1
  let main_v38 : IVec S_ 1 := (fun x v => Host.reduce IntOp.andi x v reducesTo_S8x2000_S_d0_1 h_S_) main_v37 main_c_14
  let main_v39 : IVec S_ 1 := andi main_v34 main_v38
  let main_v40 : FVec F S8x64x2000 .f32 := Host.absf main_arg8
  let main_cst_15 : FVec F S_ .f32 := constant S_ .f32 0x7F800000#32
  let main_v41 : FVec F S8x64x2000 .f32 := broadcastInDim S8x64x2000 ![] bcast_S_S8x64x2000 main_cst_15
  let main_v42 : IVec S8x64x2000 1 := cmpf .olt main_v40 main_v41
  let main_c_16 : IVec S_ 1 := constantI S_ 1 1#1
  let main_v43 : IVec S_ 1 := (fun x v => Host.reduce IntOp.andi x v reducesTo_S8x64x2000_S_d0_1_2 h_S_) main_v42 main_c_16
  let main_v44 : IVec S_ 1 := andi main_v39 main_v43
  let main_v45 : FVec F S8x64 .f32 := Host.absf main_arg9
  let main_cst_17 : FVec F S_ .f32 := constant S_ .f32 0x7F800000#32
  let main_v46 : FVec F S8x64 .f32 := broadcastInDim S8x64 ![] bcast_S_S8x64 main_cst_17
  let main_v47 : IVec S8x64 1 := cmpf .olt main_v45 main_v46
  let main_c_18 : IVec S_ 1 := constantI S_ 1 1#1
  let main_v48 : IVec S_ 1 := (fun x v => Host.reduce IntOp.andi x v reducesTo_S8x64_S_d0_1 h_S_) main_v47 main_c_18
  let main_v49 : IVec S_ 1 := andi main_v44 main_v48
  main_v49

def fn_part1 {F : FTy → Type} [FloatOps F] (main_arg4 : FVec F S8x500x500 .f32) (main_arg5 : FVec F S8x500 .f32) (main_arg6 : FVec F S8x2000x500 .f32) (main_arg7 : FVec F S8x2000 .f32) (main_arg8 : FVec F S8x64x2000 .f32) (main_arg9 : FVec F S8x64 .f32) (main_v14 : IVec S_ 1) (main_v15 : FVec F S8x500 .f32) (main_cst_5 : FVec F S_ .f32) : IVec S_ 1 :=
  let main_v16 : FVec F S8x500 .f32 := broadcastInDim S8x500 ![] bcast_S_S8x500 main_cst_5
  let main_v17 : IVec S8x500 1 := cmpf .olt main_v15 main_v16
  let main_c_6 : IVec S_ 1 := constantI S_ 1 1#1
  let main_v18 : IVec S_ 1 := (fun x v => Host.reduce IntOp.andi x v reducesTo_S8x500_S_d0_1 h_S_) main_v17 main_c_6
  let main_v19 : IVec S_ 1 := andi main_v14 main_v18
  let main_v20 : FVec F S8x500x500 .f32 := Host.absf main_arg4
  let main_cst_7 : FVec F S_ .f32 := constant S_ .f32 0x7F800000#32
  let main_v21 : FVec F S8x500x500 .f32 := broadcastInDim S8x500x500 ![] bcast_S_S8x500x500 main_cst_7
  let main_v22 : IVec S8x500x500 1 := cmpf .olt main_v20 main_v21
  let main_c_8 : IVec S_ 1 := constantI S_ 1 1#1
  let main_v23 : IVec S_ 1 := (fun x v => Host.reduce IntOp.andi x v reducesTo_S8x500x500_S_d0_1_2 h_S_) main_v22 main_c_8
  let main_v24 : IVec S_ 1 := andi main_v19 main_v23
  let main_v25 : FVec F S8x500 .f32 := Host.absf main_arg5
  let main_cst_9 : FVec F S_ .f32 := constant S_ .f32 0x7F800000#32
  let main_v26 : FVec F S8x500 .f32 := broadcastInDim S8x500 ![] bcast_S_S8x500 main_cst_9
  let main_v27 : IVec S8x500 1 := cmpf .olt main_v25 main_v26
  let main_c_10 : IVec S_ 1 := constantI S_ 1 1#1
  let main_v28 : IVec S_ 1 := (fun x v => Host.reduce IntOp.andi x v reducesTo_S8x500_S_d0_1 h_S_) main_v27 main_c_10
  let main_v29 : IVec S_ 1 := andi main_v24 main_v28
  let main_v30 : FVec F S8x2000x500 .f32 := Host.absf main_arg6
  let main_cst_11 : FVec F S_ .f32 := constant S_ .f32 0x7F800000#32
  let main_v31 : FVec F S8x2000x500 .f32 := broadcastInDim S8x2000x500 ![] bcast_S_S8x2000x500 main_cst_11
  let main_v32 : IVec S8x2000x500 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S1024x1024 .f32) (main_arg1 : FVec F S8x1024 .f32) (main_arg2 : FVec F S8x500x1024 .f32) (main_arg3 : FVec F S8x500 .f32) (main_arg4 : FVec F S8x500x500 .f32) (main_arg5 : FVec F S8x500 .f32) (main_arg6 : FVec F S8x2000x500 .f32) (main_arg7 : FVec F S8x2000 .f32) (main_arg8 : FVec F S8x64x2000 .f32) (main_arg9 : FVec F S8x64 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_c_0 : IVec S_ 1 := constantI S_ 1 1#1
  let main_v4 : IVec S_ 1 := andi main_c_0 main_v3
  let main_v5 : FVec F S8x1024 .f32 := Host.absf main_arg1
  let main_cst_1 : FVec F S_ .f32 := constant S_ .f32 0x7F800000#32
  let main_v6 : FVec F S8x1024 .f32 := broadcastInDim S8x1024 ![] bcast_S_S8x1024 main_cst_1
  let main_v7 : IVec S8x1024 1 := cmpf .olt main_v5 main_v6
  let main_c_2 : IVec S_ 1 := constantI S_ 1 1#1
  let main_v8 : IVec S_ 1 := (fun x v => Host.reduce IntOp.andi x v reducesTo_S8x1024_S_d0_1 h_S_) main_v7 main_c_2
  let main_v9 : IVec S_ 1 := andi main_v4 main_v8
  let main_v10 : FVec F S8x500x1024 .f32 := Host.absf main_arg2
  let main_cst_3 : FVec F S_ .f32 := constant S_ .f32 0x7F800000#32
  let main_v11 : FVec F S8x500x1024 .f32 := broadcastInDim S8x500x1024 ![] bcast_S_S8x500x1024 main_cst_3
  let main_v12 : IVec S8x500x1024 1 := cmpf .olt main_v10 main_v11
  let main_c_4 : IVec S_ 1 := constantI S_ 1 1#1
  let main_v13 : IVec S_ 1 := (fun x v => Host.reduce IntOp.andi x v reducesTo_S8x500x1024_S_d0_1_2 h_S_) main_v12 main_c_4
  let main_v14 : IVec S_ 1 := andi main_v9 main_v13
  let main_v15 : FVec F S8x500 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Kernel.lean ====
abbrev S1024x1024 : Shape := ⟨2, ![1024, 1024]⟩
abbrev S8x1024 : Shape := ⟨2, ![8, 1024]⟩
abbrev S8x500x1024 : Shape := ⟨3, ![8, 500, 1024]⟩
abbrev S8x500 : Shape := ⟨2, ![8, 500]⟩
abbrev S8x500x500 : Shape := ⟨3, ![8, 500, 500]⟩
abbrev S8x2000x500 : Shape := ⟨3, ![8, 2000, 500]⟩
abbrev S8x2000 : Shape := ⟨2, ![8, 2000]⟩
abbrev S8x64x2000 : Shape := ⟨3, ![8, 64, 2000]⟩
abbrev S8x64 : Shape := ⟨2, ![8, 64]⟩
abbrev S1024x8 : Shape := ⟨2, ![1024, 8]⟩
abbrev S2048 : Shape := ⟨1, ![2048]⟩
abbrev S2048x1 : Shape := ⟨2, ![2048, 1]⟩
abbrev S1x2048 : Shape := ⟨2, ![1, 2048]⟩
abbrev S1x1 : Shape := ⟨2, ![1, 1]⟩
abbrev S16x1024 : Shape := ⟨2, ![16, 1024]⟩
abbrev S8x1x1024 : Shape := ⟨3, ![8, 1, 1024]⟩
abbrev S8x2x1024 : Shape := ⟨3, ![8, 2, 1024]⟩
abbrev S8x1x500 : Shape := ⟨3, ![8, 1, 500]⟩
abbrev S8x2x1000x500 : Shape := ⟨4, ![8, 2, 1000, 500]⟩
abbrev S8x2x1x1000 : Shape := ⟨4, ![8, 2, 1, 1000]⟩
abbrev S8x1x64 : Shape := ⟨3, ![8, 1, 64]⟩
abbrev S8x2x64 : Shape := ⟨3, ![8, 2, 64]⟩
abbrev S1024x64 : Shape := ⟨2, ![1024, 64]⟩
abbrev S1024x8x1 : Shape := ⟨3, ![1024, 8, 1]⟩
abbrev S1024x8x2 : Shape := ⟨3, ![1024, 8, 2]⟩
abbrev S_ : Shape := ⟨0, ![]⟩
abbrev S1024 : Shape := ⟨1, ![1024]⟩
abbrev S1024x1 : Shape := ⟨2, ![1024, 1]⟩
abbrev S8 : Shape := ⟨1, ![8]⟩
abbrev S1x8 : Shape := ⟨2, ![1, 8]⟩
abbrev S1x1x8 : Shape := ⟨3, ![1, 1, 8]⟩
abbrev S1 : Shape := ⟨1, ![1]⟩
abbrev S1x1x1 : Shape := ⟨3, ![1, 1, 1]⟩
abbrev S1024x16 : Shape := ⟨2, ![1024, 16]⟩
abbrev S1x2x1024 : Shape := ⟨3, ![1, 2, 1024]⟩
abbrev S1x500x1024 : Shape := ⟨3, ![1, 500, 1024]⟩
abbrev S1x1x500 : Shape := ⟨3, ![1, 1, 500]⟩
abbrev S1x500x500 : Shape := ⟨3, ![1, 500, 500]⟩
abbrev S1x1x1000x500 : Shape := ⟨4, ![1, 1, 1000, 500]⟩
abbrev S1x1x1x1000 : Shape := ⟨4, ![1, 1, 1, 1000]⟩
abbrev S1x64x2000 : Shape := ⟨3, ![1, 64, 2000]⟩
abbrev S1x1x64 : Shape := ⟨3, ![1, 1, 64]⟩
abbrev S1x2x64 : Shape := ⟨3, ![1, 2, 64]⟩
abbrev S2x500 : Shape := ⟨2, ![2, 500]⟩
abbrev S2x2000 : Shape := ⟨2, ![2, 2000]⟩
abbrev S2x1024 : Shape := ⟨2, ![2, 1024]⟩
abbrev S500x1024 : Shape := ⟨2, ![500, 1024]⟩
abbrev S1x500 : Shape := ⟨2, ![1, 500]⟩
abbrev S500x500 : Shape := ⟨2, ![500, 500]⟩
abbrev S1000x500 : Shape := ⟨2, ![1000, 500]⟩
abbrev S2x1000 : Shape := ⟨2, ![2, 1000]⟩
abbrev S1x1000 : Shape := ⟨2, ![1, 1000]⟩
abbrev S64x2000 : Shape := ⟨2, ![64, 2000]⟩
abbrev S2x64 : Shape := ⟨2, ![2, 64]⟩
abbrev S1x64 : Shape := ⟨2, ![1, 64]⟩
abbrev S2048x128 : Shape := ⟨2, ![2048, 128]⟩
abbrev S1024x62 : Shape := ⟨2, ![1024, 62]⟩
abbrev S1024x128 : Shape := ⟨2, ![1024, 128]⟩
abbrev S64 : Shape := ⟨1, ![64]⟩
abbrev S1x1024x1 : Shape := ⟨3, ![1, 1024, 1]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩

abbrev nBuf : Space → Nat
  | .hbm => 45
  | .vmem => 42
  | .smem => 2
  | _ => 0

abbrev bufTy : (tb : Table) → Fin (tcTables nBuf tb) → BufTy
  | .hbm, ⟨0, _⟩ => ⟨S1024x1024, .f32⟩
  | .hbm, ⟨1, _⟩ => ⟨S8x1024, .f32⟩
  | .hbm, ⟨2, _⟩ => ⟨S8x500x1024, .f32⟩
  | .hbm, ⟨3, _⟩ => ⟨S8x500, .f32⟩
  | .hbm, ⟨4, _⟩ => ⟨S8x500x500, .f32⟩
  | .hbm, ⟨5, _⟩ => ⟨S8x500, .f32⟩
  | .hbm, ⟨6, _⟩ => ⟨S8x2000x500, .f32⟩
  | .hbm, ⟨7, _⟩ => ⟨S8x2000, .f32⟩
  | .hbm, ⟨8, _⟩ => ⟨S8x64x2000, .f32⟩
  | .hbm, ⟨9, _⟩ => ⟨S8x64, .f32⟩
  | .hbm, ⟨10, _⟩ => ⟨S1024x8, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S1x2048, .f32⟩
  | .hbm, ⟨16, _⟩ => ⟨S1024x8, .f32⟩
  | .hbm, ⟨17, _⟩ => ⟨S1024x8, .f32⟩
  | .hbm, ⟨18, _⟩ => ⟨S1024x8, .f32⟩
  | .hbm, ⟨19, _⟩ => ⟨S1024x8, .f32⟩
  | .hbm, ⟨20, _⟩ => ⟨S1024x8, .f32⟩
  | .hbm, ⟨21, _⟩ => ⟨S1x1, .f32⟩
  | .hbm, ⟨22, _⟩ => ⟨S16x1024, .f32⟩
  | .hbm, ⟨23, _⟩ => ⟨S8x1024, .f32⟩
  | .hbm, ⟨24, _⟩ => ⟨S8x1024, .f32⟩
  | .hbm, ⟨25, _⟩ => ⟨S8x1x1024, .f32⟩
  | .hbm, ⟨26, _⟩ => ⟨S8x1x1024, .f32⟩
  | .hbm, ⟨27, _⟩ => ⟨S8x2x1024, .f32⟩
  | .hbm, ⟨28, _⟩ => ⟨S8x1x500, .f32⟩
  | .hbm, ⟨29, _⟩ => ⟨S8x1x500, .f32⟩
  | .hbm, ⟨30, _⟩ => ⟨S8x2x1000x500, .f32⟩
  | .hbm, ⟨31, _⟩ => ⟨S8x2x1x1000, .f32⟩
  | .hbm, ⟨32, _⟩ => ⟨S8x1x64, .f32⟩
  | .hbm, ⟨33, _⟩ => ⟨S8x2x64, .f32⟩
  | .hbm, ⟨34, _⟩ => ⟨S8x1x64, .f32⟩
  | .hbm, ⟨35, _⟩ => ⟨S8x64, .f32⟩
  | .hbm, ⟨36, _⟩ => ⟨S8x1x64, .f32⟩
  | .hbm, ⟨37, _⟩ => ⟨S8x64, .f32⟩
  | .hbm, ⟨38, _⟩ => ⟨S1024x64, .f32⟩
  | .hbm, ⟨39, _⟩ => ⟨S1x1, .f32⟩
  | .hbm, ⟨40, _⟩ => ⟨S1024x8x1, .f32⟩
  | .hbm, ⟨41, _⟩ => ⟨S1024x8x1, .f32⟩
  | .hbm, ⟨42, _⟩ => ⟨S1024x8x2, .f32⟩
  | .hbm, ⟨43, _⟩ => ⟨S_, .f32⟩
  | .hbm, ⟨44, _⟩ => ⟨S_, .f32⟩
  | .local _ .vmem, ⟨0, _⟩ => ⟨S1024x1024, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S1024x8, .f32⟩
  | .local _ .vmem, ⟨5, _⟩ => ⟨S1024x8, .f32⟩
  | .local _ .vmem, ⟨6, _⟩ => ⟨S1024x8, .f32⟩
  | .local _ .vmem, ⟨7, _⟩ => ⟨S1x1, .f32⟩
  | .local _ .vmem, ⟨8, _⟩ => ⟨S16x1024, .f32⟩
  | .local _ .vmem, ⟨9, _⟩ => ⟨S1x2x1024, .f32⟩
  | .local _ .vmem, ⟨10, _⟩ => ⟨S1x2x1024, .f32⟩
  | .local _ .vmem, ⟨11, _⟩ => ⟨S1x500x1024, .f32⟩
  | .local _ .vmem, ⟨12, _⟩ => ⟨S1x500x1024, .f32⟩
  | .local _ .vmem, ⟨13, _⟩ => ⟨S1x1x500, .f32⟩
  | .local _ .vmem, ⟨14, _⟩ => ⟨S1x1x500, .f32⟩
  | .local _ .vmem, ⟨15, _⟩ => ⟨S1x500x500, .f32⟩
  | .local _ .vmem, ⟨16, _⟩ => ⟨S1x500x500, .f32⟩
  | .local _ .vmem, ⟨17, _⟩ => ⟨S1x1x500, .f32⟩
  | .local _ .vmem, ⟨18, _⟩ => ⟨S1x1x500, .f32⟩
  | .local _ .vmem, ⟨19, _⟩ => ⟨S1x1x1000x500, .f32⟩
  | .local _ .vmem, ⟨20, _⟩ => ⟨S1x1x1000x500, .f32⟩
  | .local _ .vmem, ⟨21, _⟩ => ⟨S1x1x1x1000, .f32⟩
  | .local _ .vmem, ⟨22, _⟩ => ⟨S1x1x1x1000, .f32⟩
  | .local _ .vmem, ⟨23, _⟩ => ⟨S1x64x2000, .f32⟩
  | .local _ .vmem, ⟨24, _⟩ => ⟨S1x64x2000, .f32⟩
  | .local _ .vmem, ⟨25, _⟩ => ⟨S1x1x64, .f32⟩
  | .local _ .vmem, ⟨26, _⟩ => ⟨S1x1x64, .f32⟩
  | .local _ .vmem, ⟨27, _⟩ => ⟨S1x2x64, .f32⟩
  | .local _ .vmem, ⟨28, _⟩ => ⟨S1x2x64, .f32⟩
  | .local _ .vmem, ⟨29, _⟩ => ⟨S2x500, .f32⟩
  | .local _ .vmem, ⟨30, _⟩ => ⟨S2x2000, .f32⟩
  | .local _ .vmem, ⟨31, _⟩ => ⟨S1024x8, .f32⟩
  | .local _ .vmem, ⟨32, _⟩ => ⟨S1024x8, .f32⟩
  | .local _ .vmem, ⟨33, _⟩ => ⟨S8x64, .f32⟩
  | .local _ .vmem, ⟨34, _⟩ => ⟨S8x64, .f32⟩
  | .local _ .vmem, ⟨35, _⟩ => ⟨S2048x1, .f32⟩
  | .local _ .vmem, ⟨36, _⟩ => ⟨S1x2048, .f32⟩
  | .local _ .vmem, ⟨37, _⟩ => ⟨S2048x1, .f32⟩
  | .local _ .vmem, ⟨38, _⟩ => ⟨S1024x64, .f32⟩
  | .local _ .vmem, ⟨39, _⟩ => ⟨S1x1, .f32⟩
  | .local _ .vmem, ⟨40, _⟩ => ⟨S2048x128, .f32⟩
  | .local _ .vmem, ⟨41, _⟩ => ⟨S2048x128, .f32⟩
  | .local _ .smem, ⟨0, _⟩ => ⟨S1x1, .f32⟩
  | .local _ .smem, ⟨1, _⟩ => ⟨S1x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_cst_0 : Ref sig .tc := ⟨.hbm, 11, rfl⟩
abbrev main_call0_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4_0 : Ref sig .tc := ⟨.hbm, 17, rfl⟩
abbrev main_call0_v4_1 : Ref sig .tc := ⟨.hbm, 18, rfl⟩
abbrev main_call0_v4_2 : Ref sig .tc := ⟨.hbm, 19, rfl⟩
abbrev main_call0_v4_3 : Ref sig .tc := ⟨.hbm, 20, rfl⟩
abbrev main_call0_v4_4 : Ref sig .tc := ⟨.hbm, 21, rfl⟩
abbrev main_call0_v4_5 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_v0_0 : Ref sig .tc := ⟨.hbm, 38, rfl⟩
abbrev main_call0_v20_1 : Ref sig .tc := ⟨.hbm, 39, rfl⟩
abbrev main_call0_v21 : Ref sig .tc := ⟨.hbm, 40, rfl⟩
abbrev main_call0_v22 : Ref sig .tc := ⟨.hbm, 41, rfl⟩
abbrev main_v0_1 : Ref sig .tc := ⟨.hbm, 42, rfl⟩
abbrev main_v0_2 : Ref sig .tc := ⟨.hbm, 43, rfl⟩
abbrev main_v0_3 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_scratch0 : Ref sig .tc := ⟨.vmem, 29, rfl⟩
abbrev cc1_scratch1 : Ref sig .tc := ⟨.vmem, 30, rfl⟩
abbrev cc2_stg0_0 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_scratch0 : Ref sig .tc := ⟨.vmem, 40, rfl⟩
abbrev cc2_scratch1 : Ref sig .tc := ⟨.vmem, 41, rfl⟩
abbrev cc2_scratch2 : Ref sig .tc := ⟨.smem, 0, rfl⟩
abbrev cc2_scratch3 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc2_sem0_0 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![8, 2], ![false, false]⟩

def k1_cond3 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_13 : BitVec 32 := 0#32
  let v18 : BitVec 1 := Scalar.cmpi .ne v17 c0_i32_13
  v18

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x500x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x500 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x500x500 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x500 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1000x500 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x1000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x64x2000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x2x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![8], ![false]⟩

def k2_off1 (i : grid2.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def k2_off2 (i : grid2.Coords) : Fin 2 → Nat :=
  let arg0 : BitVec 32 := BitVec.ofNat 32 (i 0).val
  let c256_i32_11 : BitVec 32 := 256#32
  let v29 : BitVec 32 := Scalar.muli arg0 c256_i32_11
  let v30 : Index := Scalar.indexCast v29
  let c0_12 : Index := 0#32
  ![v30.toNat, 0]
def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_16 : BitVec 32 := 0#32
  let v42 : BitVec 1 := Scalar.cmpi .ne v41 c0_i32_16
  v42

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== ReferenceIdeal.lean ====
abbrev S1024x1024 : Shape := ⟨2, ![1024, 1024]⟩
abbrev S8x1024 : Shape := ⟨2, ![8, 1024]⟩
abbrev S8x500x1024 : Shape := ⟨3, ![8, 500, 1024]⟩
abbrev S8x500 : Shape := ⟨2, ![8, 500]⟩
abbrev S8x500x500 : Shape := ⟨3, ![8, 500, 500]⟩
abbrev S8x2000x500 : Shape := ⟨3, ![8, 2000, 500]⟩
abbrev S8x2000 : Shape := ⟨2, ![8, 2000]⟩
abbrev S8x64x2000 : Shape := ⟨3, ![8, 64, 2000]⟩
abbrev S8x64 : Shape := ⟨2, ![8, 64]⟩
abbrev S1024x8 : Shape := ⟨2, ![1024, 8]⟩
abbrev S920 : Shape := ⟨1, ![920]⟩
abbrev S1024x2 : Shape := ⟨2, ![1024, 2]⟩
abbrev S1024x2x1 : Shape := ⟨3, ![1024, 2, 1]⟩
abbrev S1x1x8 : Shape := ⟨3, ![1, 1, 8]⟩
abbrev S1024x2x8 : Shape := ⟨3, ![1024, 2, 8]⟩
abbrev S_ : Shape := ⟨0, ![]⟩
abbrev S8 : Shape := ⟨1, ![8]⟩
abbrev S1x8 : Shape := ⟨2, ![1, 8]⟩
abbrev S1024x8x2 : Shape := ⟨3, ![1024, 8, 2]⟩
abbrev S8x2x1024 : Shape := ⟨3, ![8, 2, 1024]⟩
abbrev S8x2x500 : Shape := ⟨3, ![8, 2, 500]⟩
abbrev S8x1x500 : Shape := ⟨3, ![8, 1, 500]⟩
abbrev S8x2x2000 : Shape := ⟨3, ![8, 2, 2000]⟩
abbrev S8x1x2000 : Shape := ⟨3, ![8, 1, 2000]⟩
abbrev S8x2x64 : Shape := ⟨3, ![8, 2, 64]⟩
abbrev S8x1x64 : Shape := ⟨3, ![8, 1, 64]⟩
abbrev S2x64x1024 : Shape := ⟨3, ![2, 64, 1024]⟩
abbrev S1024x2x64 : Shape := ⟨3, ![1024, 2, 64]⟩
abbrev S2x1024x64 : Shape := ⟨3, ![2, 1024, 64]⟩
abbrev S1024x64 : Shape := ⟨2, ![1024, 64]⟩
abbrev S1x1024x64 : Shape := ⟨3, ![1, 1024, 64]⟩
abbrev S920x1 : Shape := ⟨2, ![920, 1]⟩
abbrev S920x64 : Shape := ⟨2, ![920, 64]⟩
abbrev S1840x64 : Shape := ⟨2, ![1840, 64]⟩
abbrev S1840x1x64 : Shape := ⟨3, ![1840, 1, 64]⟩
abbrev S1x1840x64 : Shape := ⟨3, ![1, 1840, 64]⟩
abbrev S1840x1840x64 : Shape := ⟨3, ![1840, 1840, 64]⟩
abbrev S1840x1840 : Shape := ⟨2, ![1840, 1840]⟩
abbrev S920x920 : Shape := ⟨2, ![920, 920]⟩

abbrev nBuf : Space → Nat
  | .hbm => 170
  | .vmem => 0
  | .smem => 0
  | _ => 0

abbrev hbmTy0_0 (i : Nat) : BufTy := match i % 128 with
  | 0 => ⟨S1024x1024, .f32⟩
  | 1 => ⟨S8x1024, .f32⟩
  | 2 => ⟨S8x500x1024, .f32⟩
  | 3 => ⟨S8x500, .f32⟩
  | 4 => ⟨S8x500x500, .f32⟩
  | 5 => ⟨S8x500, .f32⟩
  | 6 => ⟨S8x2000x500, .f32⟩
  | 7 => ⟨S8x2000, .f32⟩
  | 8 => ⟨S8x64x2000, .f32⟩
  | 9 => ⟨S8x64, .f32⟩
  | 10 => ⟨S1024x8, .f32⟩
  | 11 => ⟨S920, .i32⟩
  | 12 => ⟨S920, .i1⟩
  | 13 => ⟨S920, .i32⟩
  | 14 => ⟨S920, .i1⟩
  | 15 => ⟨S1024x8, .f32⟩
  | 16 => ⟨S1024x8, .f32⟩
  | 17 => ⟨S1024x8, .f32⟩
  | 18 => ⟨S1024x2, .f32⟩
  | 19 => ⟨S1024x2, .i32⟩
  | 20 => ⟨S1024x2x1, .i32⟩
  | 21 => ⟨S1x1x8, .i32⟩
  | 22 => ⟨S1024x2x8, .i32⟩
  | 23 => ⟨S1024x2x8, .i32⟩
  | 24 => ⟨S1024x2x8, .i1⟩
  | 25 => ⟨S1024x2x8, .f32⟩
  | 26 => ⟨S_, .f32⟩
  | 27 => ⟨S1024x8, .f32⟩
  | 28 => ⟨S_, .f32⟩
  | 29 => ⟨S1024x8, .f32⟩
  | 30 => ⟨S1024x8, .f32⟩
  | 31 => ⟨S_, .f32⟩
  | 32 => ⟨S8, .f32⟩
  | 33 => ⟨S_, .f32⟩
  | 34 => ⟨S8, .f32⟩
  | 35 => ⟨S8, .f32⟩
  | 36 => ⟨S1x8, .f32⟩
  | 37 => ⟨S1024x8, .f32⟩
  | 38 => ⟨S1024x8, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S1024x2, .f32⟩
  | 47 => ⟨S1024x2x1, .f32⟩
  | 48 => ⟨S1024x2x1, .f32⟩
  | 49 => ⟨S1024x2x1, .f32⟩
  | 50 => ⟨S1024x2x8, .f32⟩
  | 51 => ⟨S1024x2x8, .f32⟩
  | 52 => ⟨S1024x8x2, .f32⟩
  | 53 => ⟨S_, .f32⟩
  | 54 => ⟨S1024x8x2, .f32⟩
  | 55 => ⟨S1024x8x2, .i1⟩
  | 56 => ⟨S1024x8x2, .f32⟩
  | 57 => ⟨S8x2x1024, .f32⟩
  | 58 => ⟨S8x2x500, .f32⟩
  | 59 => ⟨S8x1x500, .f32⟩
  | 60 => ⟨S8x2x500, .f32⟩
  | 61 => ⟨S8x2x500, .f32⟩
  | 62 => ⟨S_, .f32⟩
  | 63 => ⟨S8x2x500, .f32⟩
  | 64 => ⟨S8x2x500, .f32⟩
  | 65 => ⟨S8x2x500, .f32⟩
  | 66 => ⟨S8x1x500, .f32⟩
  | 67 => ⟨S8x2x500, .f32⟩
  | 68 => ⟨S8x2x500, .f32⟩
  | 69 => ⟨S_, .f32⟩
  | 70 => ⟨S8x2x500, .f32⟩
  | 71 => ⟨S8x2x500, .f32⟩
  | 72 => ⟨S8x2x2000, .f32⟩
  | 73 => ⟨S8x1x2000, .f32⟩
  | 74 => ⟨S8x2x2000, .f32⟩
  | 75 => ⟨S8x2x2000, .f32⟩
  | 76 => ⟨S_, .f32⟩
  | 77 => ⟨S8x2x2000, .f32⟩
  | 78 => ⟨S8x2x2000, .f32⟩
  | 79 => ⟨S8x2x64, .f32⟩
  | 80 => ⟨S8x1x64, .f32⟩
  | 81 => ⟨S8x2x64, .f32⟩
  | 82 => ⟨S8x2x64, .f32⟩
  | 83 => ⟨S2x64x1024, .f32⟩
  | 84 => ⟨S1024x2x64, .f32⟩
  | 85 => ⟨S2x1024x64, .f32⟩
  | 86 => ⟨S1024x64, .f32⟩
  | 87 => ⟨S1x1024x64, .f32⟩
  | 88 => ⟨S1024x64, .f32⟩
  | 89 => ⟨S_, .i32⟩
  | 90 => ⟨S920, .i32⟩
  | 91 => ⟨S920, .i32⟩
  | 92 => ⟨S920, .i32⟩
  | 93 => ⟨S920x1, .i32⟩
  | 94 => ⟨S920x64, .f32⟩
  | 95 => ⟨S1x1024x64, .f32⟩
  | 96 => ⟨S1024x64, .f32⟩
  | 97 => ⟨S_, .i32⟩
  | 98 => ⟨S920, .i32⟩
  | 99 => ⟨S920, .i32⟩
  | 100 => ⟨S920, .i32⟩
  | 101 => ⟨S920x1, .i32⟩
  | 102 => ⟨S920x64, .f32⟩
  | 103 => ⟨S1840x64, .f32⟩
  | 104 => ⟨S1840x1x64, .f32⟩
  | 105 => ⟨S1x1840x64, .f32⟩
  | 106 => ⟨S1840x1840x64, .f32⟩
  | 107 => ⟨S1840x1840x64, .f32⟩
  | 108 => ⟨S1840x1840x64, .f32⟩
  | 109 => ⟨S1840x1840x64, .f32⟩
  | 110 => ⟨S_, .f32⟩
  | 111 => ⟨S1840x1840, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S1840x1840, .f32⟩
  | 119 => ⟨S_, .f32⟩
  | 120 => ⟨S_, .f32⟩
  | 121 => ⟨S1840x1840, .f32⟩
  | 122 => ⟨S1840x1840, .f32⟩
  | 123 => ⟨S1840x1840, .f32⟩
  | 124 => ⟨S_, .f32⟩
  | 125 => ⟨S1840x1840, .f32⟩
  | 126 => ⟨S1840x1840, .f32⟩
  | 127 => ⟨S1840x1840, .f32⟩
  | _ => ⟨S1024x1024, .f32⟩

abbrev hbmTy0_1 (i : Nat) : BufTy := match i % 128 with
  | 0 => ⟨S_, .f32⟩
  | 1 => ⟨S_, .f32⟩
  | 2 => ⟨S1840x1840, .f32⟩
  | 3 => ⟨S1840x1840, .f32⟩
  | 4 => ⟨S1840x1840, .f32⟩
  | 5 => ⟨S1840x1840, .f32⟩
  | 6 => ⟨S1840x1840, .f32⟩
  | 7 => ⟨S_, .f32⟩
  | 8 => ⟨S_, .f32⟩
  | 9 => ⟨S1840x1840, .f32⟩
  | 10 => ⟨S1840x1840, .f32⟩
  | 11 => ⟨S1840x1840, .f32⟩
  | 12 => ⟨S1840x1840, .f32⟩
  | 13 => ⟨S1840x1840, .f32⟩
  | 14 => ⟨S_, .f32⟩
  | 15 => ⟨S_, .f32⟩
  | 16 => ⟨S1840x1840, .f32⟩
  | 17 => ⟨S1840x1840, .f32⟩
  | 18 => ⟨S1840x1840, .f32⟩
  | 19 => ⟨S1840x1840, .f32⟩
  | 20 => ⟨S1840x1840, .f32⟩
  | 21 => ⟨S_, .f32⟩
  | 22 => ⟨S_, .f32⟩
  | 23 => ⟨S1840x1840, .f32⟩
  | 24 => ⟨S1840x1840, .f32⟩
  | 25 => ⟨S1840x1840, .f32⟩
  | 26 => ⟨S1840x1840, .f32⟩
  | 27 => ⟨S920x920, .f32⟩
  | 28 => ⟨S920x920, .f32⟩
  | 29 => ⟨S920x920, .f32⟩
  | 30 => ⟨S920x920, .f32⟩
  | 31 => ⟨S920x920, .f32⟩
  | 32 => ⟨S920x920, .f32⟩
  | 33 => ⟨S920x920, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_values : Ref sig .tc := ⟨.hbm, 18, rfl⟩
abbrev main_indices : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v3 : Ref sig .tc := ⟨.hbm, 25, rfl⟩
abbrev main_cst_3 : Ref sig .tc := ⟨.hbm, 26, rfl⟩
abbrev main_v4 : Ref sig .tc := ⟨.hbm, 27, rfl⟩
abbrev main_cst_4 : Ref sig .tc := ⟨.hbm, 28, rfl⟩
abbrev main_v5 : Ref sig .tc := ⟨.hbm, 29, rfl⟩
abbrev main_v6 : Ref sig .tc := ⟨.hbm, 30, rfl⟩
abbrev main_cst_5 : Ref sig .tc := ⟨.hbm, 31, rfl⟩
abbrev main_v7 : Ref sig .tc := ⟨.hbm, 32, rfl⟩
abbrev main_cst_6 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_7 : Ref sig .tc := ⟨.hbm, 39, rfl⟩
abbrev main_v13 : Ref sig .tc := ⟨.hbm, 40, rfl⟩
abbrev main_cst_8 : Ref sig .tc := ⟨.hbm, 41, rfl⟩
abbrev main_v14 : Ref sig .tc := ⟨.hbm, 42, rfl⟩
abbrev main_cst_9 : Ref sig .tc := ⟨.hbm, 43, rfl⟩
abbrev main_v15 : Ref sig .tc := ⟨.hbm, 44, rfl⟩
abbrev main_cst_10 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_11 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call1_cst : Ref sig .tc := ⟨.hbm, 62, rfl⟩
abbrev main_call1_v0 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_call2_cst : Ref sig .tc := ⟨.hbm, 69, rfl⟩
abbrev main_call2_v0 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_call3_cst : Ref sig .tc := ⟨.hbm, 76, rfl⟩
abbrev main_call3_v0 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_12 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_14 : Ref sig .tc := ⟨.hbm, 110, rfl⟩
abbrev main_v71 : Ref sig .tc := ⟨.hbm, 111, rfl⟩
abbrev main_cst_15 : Ref sig .tc := ⟨.hbm, 112, rfl⟩
abbrev main_v72 : Ref sig .tc := ⟨.hbm, 113, rfl⟩
abbrev main_cst_16 : Ref sig .tc := ⟨.hbm, 114, rfl⟩
abbrev main_v73 : Ref sig .tc := ⟨.hbm, 115, rfl⟩
abbrev main_cst_17 : Ref sig .tc := ⟨.hbm, 116, rfl⟩
abbrev main_v74 : Ref sig .tc := ⟨.hbm, 117, rfl⟩
abbrev main_v75 : Ref sig .tc := ⟨.hbm, 118, rfl⟩
abbrev main_cst_18 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_19 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_21 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_22 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_23 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_24 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_cst_26 : Ref sig .tc := ⟨.hbm, 166, rfl⟩
abbrev main_v115 : Ref sig .tc := ⟨.hbm, 167, rfl⟩
abbrev main_cst_27 : Ref sig .tc := ⟨.hbm, 168, rfl⟩
abbrev main_v116 : Ref sig .tc := ⟨.hbm, 169, rfl⟩

abbrev nD : Nat := 1
abbrev τ : Topo := Topo.v7x

variable {F : FTy → Type} [FloatOps F]
-- ==== Proof.Reads.lean ====
module

public import Idealize.ShloMosaic.Lib.Pipeline.FrameBody
public import Idealize.ShloMosaic.Lib.Pipeline.Value
public import Idealize.ShloMosaic.Lib.WholeRead
public import Idealize.ShloMosaic.Lib.Tactic

/-! What loads and stores through a whole buffer read and leave. -/

@[expose] public section

namespace Cert.Reads

open Idealize.ShloMosaic

variable {F : FTy → Type} [FloatOps F] {sig : RefSig}

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

/-- What one store through the whole shape leaves is its payload. -/
theorem read_store_whole {sp : Space} {S : Shape} {e : EltTy} (v : View sig .tc sp S e) (f : v.ty.Contents (Elt F))
    {off : Fin S.rank → ℕ} (h : off = fun _ => 0) (inb : ∀ a, off a + S.size a ≤ S.size a) (w : Vec F S e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- The same when the whole-shape store is the newest of several. -/
theorem read_stores_whole {sp : Space} {S : Shape} {e : EltTy} (v : View sig .tc sp S e) (f : v.ty.Contents (Elt F))
    {off : Fin S.rank → ℕ} (h : off = fun _ => 0) (inb : ∀ a, off a + S.size a ≤ S.size a) (w : Vec F S e)
    (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-- A load through the whole shape of contents reading `x` is `x`. -/
theorem load_whole {sp : Space} {S : Shape} {e : EltTy} (m : Memref sig .tc sp S e) (hm : m.IsWhole) (x : Vec F S e)
    {off : Fin S.rank → ℕ} (h : off = fun _ => 0) (inb : ∀ a, off a + S.size a ≤ S.size a) :
    m.view.readAt (Elt F) (Rect.unit off S.size inb).toLoadRect (hm.unread x) = x := by
  rw [View.readAt_eq_ld, hm.read_unread]; exact View.ld_unit_zero h inb x

/-- A load through any rectangle of contents reading `x` reads `x` at its indices. -/
theorem load_rect {sp : Space} {S : Shape} {e : EltTy} (m : Memref sig .tc sp S e) (hm : m.IsWhole) (x : Vec F S e) (r : Rect S) :
    m.view.readAt (Elt F) r.toLoadRect (hm.unread x) = View.ld x r := by
  rw [View.readAt_eq_ld, hm.read_unread]

/-- A load through the rectangle of the newest store reads that store's payload. -/
theorem ld_store_last {sp : Space} {S : Shape} {e : EltTy} (v : View sig .tc sp S e) (f : v.ty.Contents (Elt F)) (r : Rect S)
    (w : r.shape.Idx → Elt F e) (L : List (View.Piece (Elt F) S e)) :
    View.ld (v.read (Elt F) (v.writes (Elt F) f (⟨r, w⟩ :: L))) r = w :=
  funext fun x => View.read_writes_cons_emb v f r w L x

/-- A store over contents reading `x` leaves its payload on its rectangle and `x` on the rest. -/
theorem read_store_over {sp : Space} {S : Shape} {e : EltTy} (m : Memref sig .tc sp S e) (hm : m.IsWhole) (x : Vec F S e)
    (r r' : Rect S) (w : r.shape.Idx → Elt F e)
    (hc : ∀ y, ∃ pc ∈ ([⟨r, w⟩, ⟨r', View.ld x r'⟩] : List (View.Piece (Elt F) S e)), y ∈ pc.1.set) :
    m.view.read (Elt F) (m.view.writes (Elt F) (hm.unread x) [⟨r, w⟩]) = View.canon [⟨r, w⟩, ⟨r', View.ld x r'⟩] := by
  rw [← View.read_writes_eq_canon m.view (hm.unread x) _ hc]
  refine funext fun y => ?_
  by_cases hy : y ∈ r.set
  · obtain ⟨z, rfl⟩ := r.exists_idx_of_mem hy
    exact (View.read_writes_cons_emb _ _ r w [] z).trans (View.read_writes_cons_emb _ _ r w _ z).symm
  · have hy' : y ∉ Finset.univ.map r.emb := by rwa [Rect.map_emb_univ]
    rw [View.writes_cons, View.writes_cons, View.read_slice_write_of_not_mem _ _ _ _ hy', View.read_slice_write_of_not_mem _ _ _ _ hy']
    by_cases hz : y ∈ r'.set
    · obtain ⟨z, rfl⟩ := r'.exists_idx_of_mem hz
      refine Eq.trans ?_ (View.read_writes_cons_emb _ _ r' (View.ld x r') [] z).symm
      show m.view.read (Elt F) (hm.unread x) _ = _
      rw [hm.read_unread]
    · have hz' : y ∉ Finset.univ.map r'.emb := by rwa [Rect.map_emb_univ]
      rw [View.writes_cons, View.read_slice_write_of_not_mem _ _ _ _ hz']

end Cert.Reads
end
-- ==== Proof.KernelIdealRegion0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Reads
public import Idealize.ShloMosaic.Lib.Pipeline.FrameBody
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

/-! The first call (routing): what its body leaves, and its pipeline data. -/

@[expose] public section

set_option maxRecDepth 16384

noncomputable section

namespace Cert.KernelIdeal.Region0

open Cert.KernelIdeal Cert.KernelIdeal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves in window 3, from the three input blocks. -/
def out_3 (x0 : Vec F S1024x1024 .f32) (x1 : Vec F S1024x8 .f32) (x2 : Vec F S1024x8 .f32) : Vec F S1024x8 .f32 := k0_pay11 x0 x1 x2
/-- What the body leaves in window 4, from the three input blocks. -/
def out_4 (x0 : Vec F S1024x1024 .f32) (x1 : Vec F S1024x8 .f32) (x2 : Vec F S1024x8 .f32) : Vec F S1024x8 .f32 := k0_pay12 x0 x1 x2
/-- What the body leaves in window 5, from the three input blocks. -/
def out_5 (x0 : Vec F S1024x1024 .f32) (x1 : Vec F S1024x8 .f32) (x2 : Vec F S1024x8 .f32) : Vec F S1024x8 .f32 := k0_pay13 x0 x1 x2
/-- What the body leaves in window 6, from the three input blocks. -/
def out_6 (x0 : Vec F S1024x1024 .f32) (x1 : Vec F S1024x8 .f32) (x2 : Vec F S1024x8 .f32) : Vec F S1024x8 .f32 := k0_pay1 (k0_pay12 x0 x1 x2) k0_pay14
/-- What the body leaves in window 7, from the three input blocks. -/
def out_7 (x0 : Vec F S1024x1024 .f32) (x1 : Vec F S1024x8 .f32) (x2 : Vec F S1024x8 .f32) : Vec F S1x1 .f32 := k0_pay2 (k0_pay4 x0 x1 x2) (k0_pay9 x0 x1 x2) (k0_pay10 x0 x1 x2)
/-- What the body leaves in window 8, from the three input blocks. -/
def out_8 (x0 : Vec F S1024x1024 .f32) (x1 : Vec F S1024x8 .f32) (x2 : Vec F S1024x8 .f32) : Vec F S16x1024 .f32 := k0_pay3 x0 (k0_pay12 x0 x1 x2) (k0_pay13 x0 x1 x2) k0_pay14

set_option maxHeartbeats 1000000 in
/-- The routing body leaves the inputs as they were and each output at `out_W`. -/
theorem sound_kernel (c : Dev nD) (E : Set ℕ) (arg0 : Memref sig .tc .vmem S1024x1024 .f32) (harg0 : arg0.IsWhole) (arg1 : Memref sig .tc .vmem S1024x8 .f32) (harg1 : arg1.IsWhole) (arg2 : Memref sig .tc .vmem S1024x8 .f32) (harg2 : arg2.IsWhole) (arg3 : Memref sig .tc .vmem S1024x8 .f32) (harg3 : arg3.IsWhole) (arg4 : Memref sig .tc .vmem S1024x8 .f32) (harg4 : arg4.IsWhole) (arg5 : Memref sig .tc .vmem S1024x8 .f32) (harg5 : arg5.IsWhole) (arg6 : Memref sig .tc .vmem S1024x8 .f32) (harg6 : arg6.IsWhole) (arg7 : Memref sig .tc .vmem S1x1 .f32) (harg7 : arg7.IsWhole) (arg8 : Memref sig .tc .vmem S16x1024 .f32) (harg8 : arg8.IsWhole)
    (x0 : Vec F S1024x1024 .f32) (x1 : Vec F S1024x8 .f32) (x2 : Vec F S1024x8 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out_3 x0 x1 x2) ∗ owns (c : Thread nD τ) arg4 fullShare (out_4 x0 x1 x2) ∗ owns (c : Thread nD τ) arg5 fullShare (out_5 x0 x1 x2) ∗ owns (c : Thread nD τ) arg6 fullShare (out_6 x0 x1 x2) ∗ owns (c : Thread nD τ) arg7 fullShare (out_7 x0 x1 x2) ∗ owns (c : Thread nD τ) arg8 fullShare (out_8 x0 x1 x2)) -∗ K ⟨⟩))
      ⊢ wp frame (wpE (defs₀ (F := F)) Variants.none c none) E (cc0__route_body arg0 harg0 arg1 harg1 arg2 harg2 arg3 harg3 arg4 harg4 arg5 harg5 arg6 harg6 arg7 harg7 arg8 harg8) K := by
  simp only [cc0__route_body_eq_skeleton]; unfold cc0__route_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg0.eq_unread hf0; obtain rfl := harg1.eq_unread hf1; obtain rfl := harg2.eq_unread hf2
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_run_names
    refine (read_store_whole _ _ hz2 _ _).trans ?_
    unfold out_3
    rw [load_whole arg0 harg0 x0 hz2, load_whole arg1 harg1 x1 hz2, load_whole arg2 harg2 x2 hz2]
  isplitl [H4]
  · iexists _; isplitr
    swap; · iexact H4
    ipureintro
    sl_unfold_run_names
    refine (read_store_whole _ _ hz2 _ _).trans ?_
    unfold out_4
    rw [load_whole arg0 harg0 x0 hz2, load_whole arg1 harg1 x1 hz2, load_whole arg2 harg2 x2 hz2]
  isplitl [H5]
  · iexists _; isplitr
    swap; · iexact H5
    ipureintro
    sl_unfold_run_names
    refine (read_store_whole _ _ hz2 _ _).trans ?_
    unfold out_5
    rw [load_whole arg0 harg0 x0 hz2, load_whole arg1 harg1 x1 hz2, load_whole arg2 harg2 x2 hz2]
  isplitl [H6]
  · iexists _; isplitr
    swap; · iexact H6
    ipureintro
    sl_unfold_run_names
    refine (read_store_whole _ _ hz2 _ _).trans ?_
    unfold out_6
    rw [load_whole arg0 harg0 x0 hz2, load_whole arg1 harg1 x1 hz2, load_whole arg2 harg2 x2 hz2]
  isplitl [H7]
  · iexists _; isplitr
    swap; · iexact H7
    ipureintro
    sl_unfold_run_names
    refine (read_store_whole _ _ hz2 _ _).trans ?_
    unfold out_7
    rw [load_whole arg0 harg0 x0 hz2, load_whole arg1 harg1 x1 hz2, load_whole arg2 harg2 x2 hz2]
  iexists _; isplitr
  swap; · iexact H8
  ipureintro
  sl_unfold_run_names
  refine (read_store_whole _ _ hz2 _ _).trans ?_
  unfold out_8
  rw [load_whole arg0 harg0 x0 hz2, load_whole arg1 harg1 x1 hz2, load_whole arg2 harg2 x2 hz2]

variable (V : (c : Dev nD) → (b : Ref sig .tc) → Buf (Elt F) ((c : Thread nD τ).loc b))

/-- Window `w`'s block of its array at point `t`, the arrays as the region finds them. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of the call on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
    | ⟨4, _⟩ => out_4 (iblk V c 0 t) (iblk V c 1 t) (iblk V c 2 t)
    | ⟨5, _⟩ => out_5 (iblk V c 0 t) (iblk V c 1 t) (iblk V c 2 t)
    | ⟨6, _⟩ => out_6 (iblk V c 0 t) (iblk V c 1 t) (iblk V c 2 t)
    | ⟨7, _⟩ => out_7 (iblk V c 0 t) (iblk V c 1 t) (iblk V c 2 t)
    | ⟨8, _⟩ => out_8 (iblk V c 0 t) (iblk V c 1 t) (iblk V c 2 t)
  Φ _ := Pipeline.scopedRest spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out_3 (iblk V c 0 t) (iblk V c 1 t) (iblk V c 2 t) := by dsimp only [dat]
theorem after_4 (c : Dev nD) (t : Fin cfg0.N) : (dat V c).after 4 t = out_4 (iblk V c 0 t) (iblk V c 1 t) (iblk V c 2 t) := by dsimp only [dat]
theorem after_5 (c : Dev nD) (t : Fin cfg0.N) : (dat V c).after 5 t = out_5 (iblk V c 0 t) (iblk V c 1 t) (iblk V c 2 t) := by dsimp only [dat]
theorem after_6 (c : Dev nD) (t : Fin cfg0.N) : (dat V c).after 6 t = out_6 (iblk V c 0 t) (iblk V c 1 t) (iblk V c 2 t) := by dsimp only [dat]
theorem after_7 (c : Dev nD) (t : Fin cfg0.N) : (dat V c).after 7 t = out_7 (iblk V c 0 t) (iblk V c 1 t) (iblk V c 2 t) := by dsimp only [dat]
theorem after_8 (c : Dev nD) (t : Fin cfg0.N) : (dat V c).after 8 t = out_8 (iblk V c 0 t) (iblk V c 1 t) (iblk V c 2 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation of the routing call. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Region0
end
-- ==== Proof.KernelIdealRegion1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Reads
public import Idealize.ShloMosaic.Lib.Pipeline.FrameBody
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

/-! The second call (experts): what its body does at each point, and its pipeline data. -/

@[expose] public section

set_option maxRecDepth 16384

noncomputable section

namespace Cert.KernelIdeal.Region1

open Cert.KernelIdeal Cert.KernelIdeal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rH2 : Rect S2x500 := Rect.unit (s := S2x500) ![0, 0] S2x500.size inb_S2x500_S2x500_0_0
abbrev rLo : Rect S2x2000 := Rect.unit (s := S2x2000) ![0, 0] S2x1000.size inb_S2x2000_S2x1000_0_0
abbrev rHi : Rect S2x2000 := Rect.unit (s := S2x2000) ![0, 1000] S2x1000.size inb_S2x2000_S2x1000_0_1000

theorem cover_halves (p0 : Vec F S2x1000 .f32) (p1 : Vec F S2x1000 .f32) (y : S2x2000.Idx) :
    ∃ pc ∈ ([⟨rHi, p0⟩, ⟨rLo, p1⟩] : List (View.Piece (Elt F) S2x2000 .f32)), y ∈ pc.1.set :=
  View.cover_of_tiled [⟨rHi, p0⟩, ⟨rLo, p1⟩] S2x1000.size (by rfl) y

/-- The branch conditions of the body at a grid point. -/
abbrev condJ0 (i : grid1.Coords) : Prop := (Scalar.cmpi .ne (Scalar.extui (Scalar.cmpi .eq (BitVec.ofNat 32 (i 1).val) 0#32)) 0#32) = 1#1
abbrev condJ1 (i : grid1.Coords) : Prop := k1_cond3 i = 1#1

set_option maxHeartbeats 1000000 in
/-- At an even point the body fills the scratch buffers: the second layer's values, and the lower half of the third's. -/
theorem runA (c : Dev nD) (i : grid1.Coords) (arg2 : Memref sig .tc .vmem S1x2x1024 .f32) (harg2 : arg2.IsWhole) (arg3 : Memref sig .tc .vmem S1x500x1024 .f32) (harg3 : arg3.IsWhole) (arg4 : Memref sig .tc .vmem S1x1x500 .f32) (harg4 : arg4.IsWhole) (arg5 : Memref sig .tc .vmem S1x500x500 .f32) (harg5 : arg5.IsWhole) (arg6 : Memref sig .tc .vmem S1x1x500 .f32) (harg6 : arg6.IsWhole) (arg7 : Memref sig .tc .vmem S1x1x1000x500 .f32) (harg7 : arg7.IsWhole) (arg8 : Memref sig .tc .vmem S1x1x1x1000 .f32) (harg8 : arg8.IsWhole) (arg9 : Memref sig .tc .vmem S1x64x2000 .f32) (harg9 : arg9.IsWhole) (arg10 : Memref sig .tc .vmem S1x1x64 .f32) (harg10 : arg10.IsWhole) (arg11 : Memref sig .tc .vmem S1x2x64 .f32) (harg11 : arg11.IsWhole) (arg12 : Memref sig .tc .vmem S2x500 .f32) (harg12 : arg12.IsWhole) (arg13 : Memref sig .tc .vmem S2x2000 .f32) (harg13 : arg13.IsWhole)
    (hc0 : condJ0 i) (hc2 : ¬ condJ1 i) (x0 : Vec F S1x2x1024 .f32) (x1 : Vec F S1x500x1024 .f32) (x2 : Vec F S1x1x500 .f32) (x3 : Vec F S1x500x500 .f32) (x4 : Vec F S1x1x500 .f32) (x5 : Vec F S1x1x1000x500 .f32) (x6 : Vec F S1x1x1x1000 .f32) (x7 : Vec F S1x64x2000 .f32) (x8 : Vec F S1x1x64 .f32) (x9 : Vec F S1x2x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k1_pay1 x0 x1 x2 x3 x4)
            ∗ (∃ d : Vec F S2x2000 .f32, ⌜View.ld d rLo = k1_pay3 (k1_pay1 x0 x1 x2 x3 x4) x5 x6⌝ ∗ owns (c : Thread nD τ) arg13 fullShare d)) -∗ K ⟨⟩))
      ⊢ wp frame (wpE (defs₀ (F := F)) Variants.none c none) E (cc1__experts_body i arg2 harg2 arg3 harg3 arg4 harg4 arg5 harg5 arg6 harg6 arg7 harg7 arg8 harg8 arg9 harg9 arg10 harg10 arg11 harg11 arg12 harg12 arg13 harg13) K := by
  simp only [cc1__experts_body_eq_skeleton]; unfold cc1__experts_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact hf9
  isplitl [HS0]
  · iexists _; isplitr
    swap; · iexact HS0
    ipureintro
    sl_unfold_run_names
    refine (read_store_whole _ _ hz2 _ _).trans ?_
    rw [load_whole _ _ _ hz3, load_whole _ _ _ hz3, load_whole _ _ _ hz3, load_whole _ _ _ hz3, load_whole _ _ _ hz3]
  iexists _; isplitr
  swap
  · iexists _; isplitr
    swap; · iexact HS1
    ipureintro; rfl
  ipureintro
  sl_unfold_run_names
  refine (ld_store_last _ _ _ _ _).trans ?_
  rw [View.readCov_unit_zero _ hz2, load_whole _ _ _ hz3, load_whole _ _ _ hz3, load_whole _ _ _ hz3, load_whole _ _ _ hz3, load_whole _ _ _ hz3, load_whole _ _ _ hz4, load_whole _ _ _ hz4]

set_option maxHeartbeats 1000000 in
/-- At an odd point the body completes the third layer from the scratch buffers and stores the fourth. -/
theorem runB (c : Dev nD) (i : grid1.Coords) (arg2 : Memref sig .tc .vmem S1x2x1024 .f32) (harg2 : arg2.IsWhole) (arg3 : Memref sig .tc .vmem S1x500x1024 .f32) (harg3 : arg3.IsWhole) (arg4 : Memref sig .tc .vmem S1x1x500 .f32) (harg4 : arg4.IsWhole) (arg5 : Memref sig .tc .vmem S1x500x500 .f32) (harg5 : arg5.IsWhole) (arg6 : Memref sig .tc .vmem S1x1x500 .f32) (harg6 : arg6.IsWhole) (arg7 : Memref sig .tc .vmem S1x1x1000x500 .f32) (harg7 : arg7.IsWhole) (arg8 : Memref sig .tc .vmem S1x1x1x1000 .f32) (harg8 : arg8.IsWhole) (arg9 : Memref sig .tc .vmem S1x64x2000 .f32) (harg9 : arg9.IsWhole) (arg10 : Memref sig .tc .vmem S1x1x64 .f32) (harg10 : arg10.IsWhole) (arg11 : Memref sig .tc .vmem S1x2x64 .f32) (harg11 : arg11.IsWhole) (arg12 : Memref sig .tc .vmem S2x500 .f32) (harg12 : arg12.IsWhole) (arg13 : Memref sig .tc .vmem S2x2000 .f32) (harg13 : arg13.IsWhole)
    (hc0 : ¬ condJ0 i) (hc2 : condJ1 i) (x0 : Vec F S1x2x1024 .f32) (x1 : Vec F S1x500x1024 .f32) (x2 : Vec F S1x1x500 .f32) (x3 : Vec F S1x500x500 .f32) (x4 : Vec F S1x1x500 .f32) (x5 : Vec F S1x1x1000x500 .f32) (x6 : Vec F S1x1x1x1000 .f32) (x7 : Vec F S1x64x2000 .f32) (x8 : Vec F S1x1x64 .f32) (h2 : Vec F S2x500 .f32) (h3 : Vec F S2x2000 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare h2 ∗ owns (c : Thread nD τ) arg13 fullShare h3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k1_pay5 (View.canon [⟨rHi, k1_pay4 h2 x5 x6⟩, ⟨rLo, View.ld h3 rLo⟩]) x7 x8)
            ∗ (∃ d, owns (c : Thread nD τ) arg12 fullShare d) ∗ (∃ d, owns (c : Thread nD τ) arg13 fullShare d)) -∗ K ⟨⟩))
      ⊢ wp frame (wpE (defs₀ (F := F)) Variants.none c none) E (cc1__experts_body i arg2 harg2 arg3 harg3 arg4 harg4 arg5 harg5 arg6 harg6 arg7 harg7 arg8 harg8 arg9 harg9 arg10 harg10 arg11 harg11 arg12 harg12 arg13 harg13) K := by
  simp only [cc1__experts_body_eq_skeleton]; unfold cc1__experts_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg12.eq_unread hfs0; obtain rfl := harg13.eq_unread hfs1
  sl_exec (disch := first | sl_exact hc0 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    sl_unfold_run_names
    refine (read_store_whole _ _ hz3 _ _).trans ?_
    rw [load_whole _ _ _ hz2, load_whole _ _ _ hz4, load_whole _ _ _ hz4, load_whole _ _ _ hz3, load_whole _ _ _ hz3]
    refine congrArg (fun z => k1_pay5 z x7 x8) ?_
    refine (View.readAt_eq_ld _ _ _).trans ((View.ld_unit_zero hz2 _ _).trans ?_)
    exact read_store_over _ _ _ _ _ _ (cover_halves _ _)
  isplitl [HS0]
  · iexists _, _; isplitr; swap; · iexact HS0
    ipureintro; rfl
  iexists _, _; isplitr; swap; · iexact HS1
  ipureintro; rfl

/-! ## The points -/

theorem coords_1 (t : Fin grid1.N) : (grid1.coords t 1).val = t.val % 2 := by
  have e1 : (grid1.coords t 1).val = t.val / 1 % 2 := Pipeline.Grid.coords_val t 1 (by decide) rfl
  rw [e1, Nat.div_one]

theorem hcond0 (t : Fin grid1.N) : condJ0 (grid1.coords t) ↔ t.val % 2 = 0 := by
  have ht : t.val < 16 := Nat.lt_of_lt_of_eq t.isLt N_1
  have e1 := coords_1 t
  simp only [condJ0, e1]
  have h2 : t.val % 2 = 0 ∨ t.val % 2 = 1 := by omega
  rcases h2 with h | h <;> rw [h] <;> decide

theorem hcond1 (t : Fin grid1.N) : condJ1 (grid1.coords t) ↔ t.val % 2 = 1 := by
  have ht : t.val < 16 := Nat.lt_of_lt_of_eq t.isLt N_1
  have e1 := coords_1 t
  simp only [condJ1, k1_cond3, e1]
  have h2 : t.val % 2 = 0 ∨ t.val % 2 = 1 := by omega
  rcases h2 with h | h <;> rw [h] <;> decide

theorem idle_even (t : Fin cfg1.N) (h : t.val % 2 = 0) : cfg1.idle 9 (cfg1.grid.coords t) = true := by
  have hn : ¬ condJ1 (grid1.coords t) := fun hc => by have := (hcond1 t).mp hc; omega
  show (!(k1_cond3 (grid1.coords t) == 1#1)) = true
  rw [beq_eq_false_iff_ne.mpr hn]; rfl

theorem live_odd (t : Fin cfg1.N) (h : t.val % 2 = 1) : cfg1.idle 9 (cfg1.grid.coords t) = false := by
  have hn : condJ1 (grid1.coords t) := (hcond1 t).mpr h
  show (!(k1_cond3 (grid1.coords t) == 1#1)) = false
  rw [show k1_cond3 (grid1.coords t) = 1#1 from hn]; rfl

theorem noflush_even (t : Fin cfg1.N) (h : t.val % 2 = 0) : (cfg1.win 9).flush t = false := by
  rw [Bool.eq_false_iff]; intro hf
  have := (flush1_9 t).mp hf
  omega

/-- The point before `t` (point 0's is point 0). -/
abbrev prev (t : Fin cfg1.N) : Fin cfg1.N := ⟨t.val - 1, Nat.lt_of_le_of_lt (Nat.sub_le _ _) t.isLt⟩

variable (V : (c : Dev nD) → (b : Ref sig .tc) → Buf (Elt F) ((c : Thread nD τ).loc b))

/-- Window `w`'s block of its array at point `t`, the arrays as the region finds them. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point. -/
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point. -/
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The second layer's values computed at point `t`. -/
def h2At (c : Dev nD) (t : Fin cfg1.N) : Vec F S2x500 .f32 := k1_pay1 (iblk V c 0 t) (iblk V c 1 t) (iblk V c 2 t) (iblk V c 3 t) (iblk V c 4 t)

/-- The block point `t` stores, the point before it having filled the scratch. -/
def outAt (c : Dev nD) (t : Fin cfg1.N) : Vec F S1x2x64 .f32 :=
  k1_pay5 (View.canon [⟨rHi, k1_pay4 (h2At V c (prev t)) (iblk V c 5 t) (iblk V c 6 t)⟩,
    ⟨rLo, k1_pay3 (h2At V c (prev t)) (iblk V c 5 (prev t)) (iblk V c 6 (prev t))⟩]) (iblk V c 7 t) (iblk V c 8 t)

/-- The scratch buffers at any contents. -/
def anyScr (c : Dev nD) : sProp 𝕄 :=
  iprop((∃ d, owns (c : Thread nD τ) (Memref.whole cc1_scratch0) fullShare d) ∗ (∃ d, owns (c : Thread nD τ) (Memref.whole cc1_scratch1) fullShare d))

/-- The scratch buffers after point `t`. -/
def scrAfter (c : Dev nD) (t : Fin cfg1.N) : sProp 𝕄 :=
  if t.val % 2 = 0 then
    iprop(owns (c : Thread nD τ) (Memref.whole cc1_scratch0) fullShare (h2At V c t)
      ∗ (∃ d : Vec F S2x2000 .f32, ⌜View.ld d rLo = k1_pay3 (h2At V c t) (iblk V c 5 t) (iblk V c 6 t)⌝ ∗ owns (c : Thread nD τ) (Memref.whole cc1_scratch1) fullShare d))
  else anyScr (F := F) c

/-- Every other scoped buffer. -/
abbrev scopedOther (c : Dev nD) : sProp 𝕄 :=
  Pipeline.scopedRestBut spec1 c [cc1_scratch0, cc1_scratch1]

theorem rest_split (c : Dev nD) :
    (Pipeline.scopedRest spec1 c : sProp 𝕄) = iprop(anyScr (F := F) c ∗ scopedOther (F := F) c) := by
  rw [Pipeline.scopedRest_split_of_list spec1 c [cc1_scratch0, cc1_scratch1] (by decide) (by decide)]
  unfold anyScr
  simp only [owns_whole]
  rfl

/-- The proof data of the call on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outAt V c t
  Φ k := Fin.cases (motive := fun _ => sProp 𝕄) iprop(anyScr (F := F) c ∗ scopedOther (F := F) c)
    (fun t => iprop(scrAfter V c t ∗ scopedOther (F := F) c)) k
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = outAt V c t := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d

theorem Φ_succ (c : Dev nD) (t : Fin cfg1.N) : (dat V c).Φ t.succ = iprop(scrAfter V c t ∗ scopedOther (F := F) c) := rfl

theorem Φ_zero (c : Dev nD) : (dat V c).Φ 0 = iprop(anyScr (F := F) c ∗ scopedOther (F := F) c) := rfl

theorem Φ_castSucc (c : Dev nD) (t : Fin cfg1.N) (h : t.val ≠ 0) :
    (dat V c).Φ t.castSucc = iprop(scrAfter V c (prev t) ∗ scopedOther (F := F) c) := by
  rw [← Φ_succ]
  exact congrArg (dat V c).Φ (Fin.ext (by simp only [Fin.val_castSucc, Fin.val_succ]; omega))

/-- Whatever the point, the scratch is owned at some contents before it. -/
theorem Φ_any (c : Dev nD) (t : Fin cfg1.N) (h : t.val % 2 = 0) :
    (dat V c).Φ t.castSucc ⊢ iprop(anyScr (F := F) c ∗ scopedOther (F := F) c) := by
  by_cases h0 : t.val = 0
  · have e : t.castSucc = 0 := Fin.ext h0
    rw [e, Φ_zero]
  · rw [Φ_castSucc V c t h0]
    unfold scrAfter
    rw [if_neg (show ¬ (prev t).val % 2 = 0 by simp only [prev]; omega)]

/-- What the call's body is given of its scratch at an odd point. -/
theorem Φ_odd (c : Dev nD) (t : Fin cfg1.N) (h : t.val % 2 = 1) :
    (dat V c).Φ t.castSucc = iprop((owns (c : Thread nD τ) (Memref.whole cc1_scratch0) fullShare (h2At V c (prev t))
      ∗ (∃ d : Vec F S2x2000 .f32, ⌜View.ld d rLo = k1_pay3 (h2At V c (prev t)) (iblk V c 5 (prev t)) (iblk V c 6 (prev t))⌝ ∗ owns (c : Thread nD τ) (Memref.whole cc1_scratch1) fullShare d)) ∗ scopedOther (F := F) c) := by
  rw [Φ_castSucc V c t (by omega)]
  unfold scrAfter
  rw [if_pos (show (prev t).val % 2 = 0 by simp only [prev]; omega)]

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ (dat V c).leavesExact 9 t)

theorem sound_even (c : Dev nD) (t : Fin cfg1.N) (h : t.val % 2 = 0) :
    bodyPre V c t ⊢ wp frame (wpE (defs₀ (F := F)) Variants.none c none) Set.univ (bodyAt1 t) (fun _ => bodyPost V c t) := by
  unfold bodyPre bodyPost bodyAt1
  rw [Dat.leavesExact_idle _ 9 t (idle_even t h) (noflush_even t h)]
  simp only [before_0, before_1, before_2, before_3, before_4, before_5, before_6, before_7, before_8]
  rw [Φ_succ, show (dat V c).owesAt () t.succ = (dat V c).owesAt () t.castSucc from rfl,
    after_0, after_1, after_2, after_3, after_4, after_5, after_6, after_7, after_8]
  unfold scrAfter
  rw [if_pos h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (Φ_any V c t h) $$ HΦ
  unfold anyScr
  icases HΦ' with ⟨⟨⟨%s0, HS0⟩, ⟨%s1, HS1⟩⟩, HR⟩
  iapply (runA c (grid1.coords t) _ _ _ _ _ _ _ _ _ _ _ _ _ _ _ _ _ _ _ _ _ _ _ _ ((hcond0 t).mpr h) (fun hc => by have := (hcond1 t).mp hc; omega) (iblk V c 0 t) (iblk V c 1 t) (iblk V c 2 t) (iblk V c 3 t) (iblk V c 4 t) (iblk V c 5 t) (iblk V c 6 t) (iblk V c 7 t) (iblk V c 8 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexists _; iexact HS0
  isplitl [HS1]; · iexists _; iexact HS1
  iintro ⟨H0, H1, H2, H3, H4, H5, H6, H7, H8, H9, HS0, HS1⟩
  isplitl [HS0 HS1 HR]
  · isplitl [HS0 HS1]
    · isplitl [HS0]; · iexact HS0
      iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

theorem sound_odd (c : Dev nD) (t : Fin cfg1.N) (h : t.val % 2 = 1) :
    bodyPre V c t ⊢ wp frame (wpE (defs₀ (F := F)) Variants.none c none) Set.univ (bodyAt1 t) (fun _ => bodyPost V c t) := by
  unfold bodyPre bodyPost bodyAt1
  rw [show (dat V c).leavesExact 9 t = owns (c : Thread nD τ) (st1_9 t) fullShare ((dat V c).after 9 t) from by
    unfold Dat.leavesExact; rw [live_odd t h]]
  simp only [before_0, before_1, before_2, before_3, before_4, before_5, before_6, before_7, before_8]
  rw [Φ_succ, show (dat V c).owesAt () t.succ = (dat V c).owesAt () t.castSucc from rfl,
    after_0, after_1, after_2, after_3, after_4, after_5, after_6, after_7, after_8, after_9, Φ_odd V c t h]
  unfold scrAfter
  rw [if_neg (show ¬ t.val % 2 = 0 by omega)]
  iintro ⟨⟨⟨HS0, ⟨%s1, %hs1, HS1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold outAt anyScr
  rw [← hs1]
  iapply (runB c (grid1.coords t) _ _ _ _ _ _ _ _ _ _ _ _ _ _ _ _ _ _ _ _ _ _ _ _ (fun hc => by have := (hcond0 t).mp hc; omega) ((hcond1 t).mpr h) (iblk V c 0 t) (iblk V c 1 t) (iblk V c 2 t) (iblk V c 3 t) (iblk V c 4 t) (iblk V c 5 t) (iblk V c 6 t) (iblk V c 7 t) (iblk V c 8 t) (h2At V c (prev t)) s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 HR]
  · isplitl [HS0 HS1]
    · isplitl [HS0]; · iexact HS0
      iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg1.N) :
    bodyPre V c t ⊢ wp frame (wpE (defs₀ (F := F)) Variants.none c none) Set.univ (bodyAt1 t) (fun _ => bodyPost V c t) := by
  have h2 : t.val % 2 = 0 ∨ t.val % 2 = 1 := by omega
  rcases h2 with h | h
  · exact sound_even V c t h
  · exact sound_odd V c t h

theorem defs₀_row (t : Fin cfg1.N) :
    defs₀ (F := F) .tc cfg1.body (cfg1.bodyArgs t (cfg1.slots t)) = bodyAt1 t := by
  unfold defs₀; rw [Defs.onTc_tc]

/-- The body obligation of the experts' call. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the invariant is at the last point: the scratch at some contents again. -/
theorem Φ_last (c : Dev nD) : (dat V c).Φ (Fin.last cfg1.N) ⊢ (Pipeline.scopedRest spec1 c : sProp 𝕄) := by
  have e : (Fin.last cfg1.N) = (t1_15 : Fin cfg1.N).succ := Fin.ext N_1
  rw [e, Φ_succ, rest_split]
  unfold scrAfter
  rw [if_neg (show ¬ (t1_15 : Fin cfg1.N).val % 2 = 0 by show ¬ 15 % 2 = 0; decide)]

end Cert.KernelIdeal.Region1
end
-- ==== Proof.KernelIdealRegion2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Reads
public import Idealize.ShloMosaic.Lib.Pipeline.FrameBody
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

/-! The third call (combination and distance): what its body does at each point, and its pipeline data. -/

@[expose] public section

set_option maxRecDepth 16384

noncomputable section

namespace Cert.KernelIdeal.Region2

open Cert.KernelIdeal Cert.KernelIdeal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rLo : Rect S2048x128 := Rect.unit (s := S2048x128) ![0, 0] S1024x128.size inb_S2048x128_S1024x128_0_0
abbrev rHi : Rect S2048x128 := Rect.unit (s := S2048x128) ![1024, 0] S1024x128.size inb_S2048x128_S1024x128_1024_0
abbrev mLo : Rect S2048x1 := Rect.unit (s := S2048x1) ![0, 0] S1024x1.size inb_S2048x1_S1024x1_0_0
abbrev mHi : Rect S2048x1 := Rect.unit (s := S2048x1) ![1024, 0] S1024x1.size inb_S2048x1_S1024x1_1024_0
abbrev rA (i : grid2.Coords) : Rect S2048x128 := Rect.unit (s := S2048x128) (k2_off1 i) S256x128.size (k2_off1_inb i)
abbrev rS (i : grid2.Coords) : Rect S2048x1 := Rect.unit (s := S2048x1) (k2_off2 i) S256x1.size (k2_off2_inb i)

abbrev condG0 (i : grid2.Coords) : Prop := k2_cond1 i = 1#1
abbrev condG7 (i : grid2.Coords) : Prop := k2_cond2 i = 1#1

/-- The left factor of the distance product: both halves. -/
def aOf (x0 x1 : Vec F S1024x8 .f32) (x2 x3 : Vec F S8x64 .f32) : Vec F S2048x128 .f32 :=
  View.canon [⟨rHi, k2_pay10 x1 x3⟩, ⟨rLo, k2_pay9 x0 x2⟩]
/-- The right factor: both halves. -/
def btOf (x0 x1 : Vec F S1024x8 .f32) (x2 x3 : Vec F S8x64 .f32) : Vec F S2048x128 .f32 :=
  View.canon [⟨rHi, k2_pay13 (k2_pay3 x1 x3) (k2_pay6 x1 x3) k2_pay7 k2_pay8⟩, ⟨rLo, k2_pay12 (k2_pay11 x0 x2)⟩]
/-- The reciprocal of the largest bandwidth. -/
def coefOf (x0 x1 : Vec F S1024x8 .f32) (x2 x3 : Vec F S8x64 .f32) (x6 : Vec F S2048x1 .f32) : F .f32 :=
  k2_pay15 (k2_pay14 (k2_pay2 x0 x2) (k2_pay3 x1 x3) (k2_pay5 x0 x2) (k2_pay6 x1 x3) (View.ld x6 mLo) (View.ld x6 mHi))
/-- One point's accumulation. -/
def stepOf (i : grid2.Coords) (a b : Vec F S2048x128 .f32) (k : F .f32) (x5 : Vec F S1x2048 .f32) (x4 : Vec F S2048x1 .f32) (acc : F .f32) : F .f32 :=
  k2_pay16 (View.ld a (rA i)) b k x5 acc (View.ld x4 (rS i))

theorem cover_halves (p0 : Vec F S1024x128 .f32) (p1 : Vec F S1024x128 .f32) (y : S2048x128.Idx) :
    ∃ pc ∈ ([⟨rHi, p0⟩, ⟨rLo, p1⟩] : List (View.Piece (Elt F) S2048x128 .f32)), y ∈ pc.1.set :=
  View.cover_of_tiled [⟨rHi, p0⟩, ⟨rLo, p1⟩] S1024x128.size (by rfl) y

set_option maxHeartbeats 2000000 in
/-- The first point: every buffer is filled, the accumulator starts from 0. -/
theorem runA (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S1x1 .f32) (harg12 : arg12.IsWhole) (arg13 : Memref sig .tc .smem S1x1 .f32) (harg13 : arg13.IsWhole)
    (hc0 : condG0 i) (hc1 : ¬ condG7 i) (x0 : Vec F S1024x8 .f32) (x1 : Vec F S1024x8 .f32) (x2 : Vec F S8x64 .f32) (x3 : Vec F S8x64 .f32) (x4 : Vec F S2048x1 .f32) (x5 : Vec F S1x2048 .f32) (x6 : Vec F S2048x1 .f32) (x8 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay4 x0 x2 x1 x3) ∗ owns (c : Thread nD τ) arg9 fullShare x8 ∗ owns (c : Thread nD τ) arg10 fullShare (aOf x0 x1 x2 x3) ∗ owns (c : Thread nD τ) arg11 fullShare (btOf x0 x1 x2 x3) ∗ owns (c : Thread nD τ) arg12 fullShare (fun _ => (coefOf x0 x1 x2 x3 x6)) ∗ owns (c : Thread nD τ) arg13 fullShare (fun _ => stepOf i (aOf x0 x1 x2 x3) (btOf x0 x1 x2 x3) (coefOf x0 x1 x2 x3 x6) x5 x4 (Scalar.ofBits .f32 0x00000000#32))) -∗ K ⟨⟩))
      ⊢ wp frame (wpE (defs₀ (F := F)) Variants.none c none) E (cc2__mmd_body i arg1 harg1 arg2 harg2 arg3 harg3 arg4 harg4 arg5 harg5 arg6 harg6 arg7 harg7 arg8 harg8 arg9 harg9 arg10 harg10 arg11 harg11 arg12 harg12 arg13 harg13) K := by
  simp only [cc2__mmd_body_eq_skeleton]; unfold cc2__mmd_body_skel
  simp only [k2_part3_eq_skeleton, k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    refine (read_store_whole _ _ hz2 _ _).trans ?_
    rw [load_whole arg1 harg1 x0 hz2, load_whole arg2 harg2 x1 hz2, load_whole arg3 harg3 x2 hz2, load_whole arg4 harg4 x3 hz2]
  isplitl [H8]
  · iexists _; isplitr
    swap; · iexact H8
    ipureintro
    exact hf8
  isplitl [HS0]
  · iexists _; isplitr
    swap; · iexact HS0
    ipureintro
    sl_unfold_run_names
    refine (View.read_writes_eq_canon _ _ _ (cover_halves _ _)).trans ?_
    unfold aOf
    rw [load_whole arg1 harg1 x0 hz2, load_whole arg2 harg2 x1 hz2, load_whole arg3 harg3 x2 hz2, load_whole arg4 harg4 x3 hz2]
  isplitl [HS1]
  · iexists _; isplitr
    swap; · iexact HS1
    ipureintro
    sl_unfold_run_names
    refine (View.read_writes_eq_canon _ _ _ (cover_halves _ _)).trans ?_
    unfold btOf
    rw [load_whole arg1 harg1 x0 hz2, load_whole arg2 harg2 x1 hz2, load_whole arg3 harg3 x2 hz2, load_whole arg4 harg4 x3 hz2]
  isplitl [HS2]
  · iexists _; isplitr
    swap; · iexact HS2
    ipureintro
    sl_unfold_run_names
    refine (read_store_whole _ _ hz2 _ _).trans ?_
    unfold coefOf
    rw [load_whole arg1 harg1 x0 hz2, load_whole arg2 harg2 x1 hz2, load_whole arg3 harg3 x2 hz2, load_whole arg4 harg4 x3 hz2, load_rect arg7 harg7 x6, load_rect arg7 harg7 x6]
    rfl
  iexists _; isplitr
  swap; · iexact HS3
  ipureintro
  sl_unfold_run_names
  refine (read_stores_whole _ _ hz2 _ _ _).trans ?_
  unfold stepOf aOf btOf coefOf
  rw [load_whole arg1 harg1 x0 hz2, load_whole arg2 harg2 x1 hz2, load_whole arg3 harg3 x2 hz2, load_whole arg4 harg4 x3 hz2, load_rect arg7 harg7 x6, load_rect arg7 harg7 x6, load_whole arg6 harg6 x5 hz2, load_rect arg5 harg5 x4,
    View.readCov_eq_canon_ld _ _ _ (cover_halves _ _), View.ld_unit_zero hz2, View.readAt_eq_ld arg10.view,
    View.read_writes_eq_canon arg10.view _ _ (cover_halves _ _)]
  rfl

set_option maxHeartbeats 2000000 in
/-- A middle point: the accumulator grows by the point's rows. -/
theorem runB (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S1x1 .f32) (harg12 : arg12.IsWhole) (arg13 : Memref sig .tc .smem S1x1 .f32) (harg13 : arg13.IsWhole)
    (hc0 : ¬ condG0 i) (hc1 : ¬ condG7 i) (x0 : Vec F S1024x8 .f32) (x1 : Vec F S1024x8 .f32) (x2 : Vec F S8x64 .f32) (x3 : Vec F S8x64 .f32) (x4 : Vec F S2048x1 .f32) (x5 : Vec F S1x2048 .f32) (x6 : Vec F S2048x1 .f32) (x7 : Vec F S1024x64 .f32) (x8 : Vec F S1x1 .f32) (a b : Vec F S2048x128 .f32) (k acc : F .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare a ∗ owns (c : Thread nD τ) arg11 fullShare b ∗ owns (c : Thread nD τ) arg12 fullShare (fun _ => k) ∗ owns (c : Thread nD τ) arg13 fullShare (fun _ => acc)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare a ∗ owns (c : Thread nD τ) arg11 fullShare b ∗ owns (c : Thread nD τ) arg12 fullShare (fun _ => k) ∗ owns (c : Thread nD τ) arg13 fullShare (fun _ => stepOf i a b k x5 x4 acc)) -∗ K ⟨⟩))
      ⊢ wp frame (wpE (defs₀ (F := F)) Variants.none c none) E (cc2__mmd_body i arg1 harg1 arg2 harg2 arg3 harg3 arg4 harg4 arg5 harg5 arg6 harg6 arg7 harg7 arg8 harg8 arg9 harg9 arg10 harg10 arg11 harg11 arg12 harg12 arg13 harg13) K := by
  simp only [cc2__mmd_body_eq_skeleton]; unfold cc2__mmd_body_skel
  simp only [k2_part3_eq_skeleton, k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg10.eq_unread hfs0; obtain rfl := harg11.eq_unread hfs1; obtain rfl := harg12.eq_unread hfs2; obtain rfl := harg13.eq_unread hfs3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    exact hf7
  isplitl [H8]
  · iexists _; isplitr
    swap; · iexact H8
    ipureintro
    exact hf8
  isplitl [HS0]
  · iexists _; isplitr
    swap; · iexact HS0
    ipureintro
    exact harg10.read_unread _
  isplitl [HS1]
  · iexists _; isplitr
    swap; · iexact HS1
    ipureintro
    exact harg11.read_unread _
  isplitl [HS2]
  · iexists _; isplitr
    swap; · iexact HS2
    ipureintro
    exact harg12.read_unread _
  iexists _; isplitr
  swap; · iexact HS3
  ipureintro
  sl_unfold_run_names
  refine (read_store_whole _ _ hz2 _ _).trans ?_
  unfold stepOf
  rw [load_rect arg10 harg10 a, load_whole arg11 harg11 b hz2, load_whole arg12 harg12 (fun _ => k) hz2, load_whole arg6 harg6 x5 hz2, load_whole arg13 harg13 (fun _ => acc) hz2, load_rect arg5 harg5 x4]
  rfl

set_option maxHeartbeats 2000000 in
/-- The last point: the accumulator grows once more and the result is stored. -/
theorem runC (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S1024x64 .f32) (harg8 : arg8.IsWhole) (arg9 : Memref sig .tc .vmem S1x1 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S1x1 .f32) (harg12 : arg12.IsWhole) (arg13 : Memref sig .tc .smem S1x1 .f32) (harg13 : arg13.IsWhole)
    (hc0 : ¬ condG0 i) (hc1 : condG7 i) (x0 : Vec F S1024x8 .f32) (x1 : Vec F S1024x8 .f32) (x2 : Vec F S8x64 .f32) (x3 : Vec F S8x64 .f32) (x4 : Vec F S2048x1 .f32) (x5 : Vec F S1x2048 .f32) (x6 : Vec F S2048x1 .f32) (x7 : Vec F S1024x64 .f32) (a b : Vec F S2048x128 .f32) (k acc : F .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare a ∗ owns (c : Thread nD τ) arg11 fullShare b ∗ owns (c : Thread nD τ) arg12 fullShare (fun _ => k) ∗ owns (c : Thread nD τ) arg13 fullShare (fun _ => acc)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k2_pay1 (stepOf i a b k x5 x4 acc)) ∗ owns (c : Thread nD τ) arg10 fullShare a ∗ owns (c : Thread nD τ) arg11 fullShare b ∗ owns (c : Thread nD τ) arg12 fullShare (fun _ => k) ∗ owns (c : Thread nD τ) arg13 fullShare (fun _ => stepOf i a b k x5 x4 acc)) -∗ K ⟨⟩))
      ⊢ wp frame (wpE (defs₀ (F := F)) Variants.none c none) E (cc2__mmd_body i arg1 harg1 arg2 harg2 arg3 harg3 arg4 harg4 arg5 harg5 arg6 harg6 arg7 harg7 arg8 harg8 arg9 harg9 arg10 harg10 arg11 harg11 arg12 harg12 arg13 harg13) K := by
  simp only [cc2__mmd_body_eq_skeleton]; unfold cc2__mmd_body_skel
  simp only [k2_part3_eq_skeleton, k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg10.eq_unread hfs0; obtain rfl := harg11.eq_unread hfs1; obtain rfl := harg12.eq_unread hfs2; obtain rfl := harg13.eq_unread hfs3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    exact hf7
  isplitl [H8]
  · iexists _; isplitr
    swap; · iexact H8
    ipureintro
    sl_unfold_run_names
    refine (read_store_whole _ _ hz2 _ _).trans ?_
    unfold stepOf
    rw [load_rect arg10 harg10 a, load_whole arg11 harg11 b hz2, load_whole arg12 harg12 (fun _ => k) hz2, load_whole arg6 harg6 x5 hz2, load_whole arg13 harg13 (fun _ => acc) hz2, load_rect arg5 harg5 x4]
  isplitl [HS0]
  · iexists _; isplitr
    swap; · iexact HS0
    ipureintro
    exact harg10.read_unread _
  isplitl [HS1]
  · iexists _; isplitr
    swap; · iexact HS1
    ipureintro
    exact harg11.read_unread _
  isplitl [HS2]
  · iexists _; isplitr
    swap; · iexact HS2
    ipureintro
    exact harg12.read_unread _
  iexists _; isplitr
  swap; · iexact HS3
  ipureintro
  sl_unfold_run_names
  refine (read_store_whole _ _ hz2 _ _).trans ?_
  unfold stepOf
  rw [load_rect arg10 harg10 a, load_whole arg11 harg11 b hz2, load_whole arg12 harg12 (fun _ => k) hz2, load_whole arg6 harg6 x5 hz2, load_whole arg13 harg13 (fun _ => acc) hz2, load_rect arg5 harg5 x4]
  rfl

/-! ## The points -/

theorem coords_0 (t : Fin grid2.N) : (grid2.coords t 0).val = t.val := by
  have ht : t.val < 8 := Nat.lt_of_lt_of_eq t.isLt N_2
  have e1 : (grid2.coords t 0).val = t.val / 1 % 8 := Pipeline.Grid.coords_val t 0 (by decide) rfl
  rw [e1, Nat.div_one, Nat.mod_eq_of_lt ht]

theorem hcond0 (t : Fin grid2.N) : condG0 (grid2.coords t) ↔ t.val = 0 := by
  have ht : t.val < 8 := Nat.lt_of_lt_of_eq t.isLt N_2
  have e1 := coords_0 t
  simp only [condG0, k2_cond1, e1]
  generalize t.val = n at ht
  revert n; decide

theorem hcond7 (t : Fin grid2.N) : condG7 (grid2.coords t) ↔ t.val = 7 := by
  have ht : t.val < 8 := Nat.lt_of_lt_of_eq t.isLt N_2
  have e1 := coords_0 t
  simp only [condG7, k2_cond2, e1]
  generalize t.val = n at ht
  revert n; decide

theorem idle7 (t : Fin cfg2.N) (h : t.val ≠ 0) : cfg2.idle 7 (cfg2.grid.coords t) = true := by
  have hn : ¬ condG0 (grid2.coords t) := fun hc => h ((hcond0 t).mp hc)
  show (!(k2_cond1 (grid2.coords t) == 1#1)) = true
  rw [beq_eq_false_iff_ne.mpr hn]; rfl

theorem live7 (t : Fin cfg2.N) (h : t.val = 0) : cfg2.idle 7 (cfg2.grid.coords t) = false := by
  have hn : condG0 (grid2.coords t) := (hcond0 t).mpr h
  show (!(k2_cond1 (grid2.coords t) == 1#1)) = false
  rw [show k2_cond1 (grid2.coords t) = 1#1 from hn]; rfl

theorem idle8 (t : Fin cfg2.N) (h : t.val ≠ 7) : cfg2.idle 8 (cfg2.grid.coords t) = true := by
  have hn : ¬ condG7 (grid2.coords t) := fun hc => h ((hcond7 t).mp hc)
  show (!(k2_cond2 (grid2.coords t) == 1#1)) = true
  rw [beq_eq_false_iff_ne.mpr hn]; rfl

theorem live8 (t : Fin cfg2.N) (h : t.val = 7) : cfg2.idle 8 (cfg2.grid.coords t) = false := by
  have hn : condG7 (grid2.coords t) := (hcond7 t).mpr h
  show (!(k2_cond2 (grid2.coords t) == 1#1)) = false
  rw [show k2_cond2 (grid2.coords t) = 1#1 from hn]; rfl

theorem noflush7 (t : Fin cfg2.N) (h : t.val ≠ 7) : (cfg2.win 7).flush t = false := by
  have ht : t.val < 8 := Nat.lt_of_lt_of_eq t.isLt N_2
  rw [Bool.eq_false_iff]; intro hf
  have := (flush2_7 t).mp hf
  omega
theorem noflush8 (t : Fin cfg2.N) (h : t.val ≠ 7) : (cfg2.win 8).flush t = false := by
  have ht : t.val < 8 := Nat.lt_of_lt_of_eq t.isLt N_2
  rw [Bool.eq_false_iff]; intro hf
  have := (flush2_8 t).mp hf
  omega
theorem doflush7 (t : Fin cfg2.N) (h : t.val = 7) : (cfg2.win 7).flush t = true :=
  (flush2_7 t).mpr (by omega)

/-- The point before `t` (point 0's is point 0). -/
abbrev prev (t : Fin cfg2.N) : Fin cfg2.N := ⟨t.val - 1, Nat.lt_of_le_of_lt (Nat.sub_le _ _) t.isLt⟩

variable (V : (c : Dev nD) → (b : Ref sig .tc) → Buf (Elt F) ((c : Thread nD τ).loc b))

/-- Window `w`'s block of its array at point `t`, the arrays as the region finds them. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- What the first point leaves in the scratch. -/
def aV (c : Dev nD) : Vec F S2048x128 .f32 := aOf (iblk V c 0 t2_0) (iblk V c 1 t2_0) (iblk V c 2 t2_0) (iblk V c 3 t2_0)
def btV (c : Dev nD) : Vec F S2048x128 .f32 := btOf (iblk V c 0 t2_0) (iblk V c 1 t2_0) (iblk V c 2 t2_0) (iblk V c 3 t2_0)
def coefV (c : Dev nD) : F .f32 := coefOf (iblk V c 0 t2_0) (iblk V c 1 t2_0) (iblk V c 2 t2_0) (iblk V c 3 t2_0) (iblk V c 6 t2_0)
/-- The first result's block. -/
def out7 (c : Dev nD) : Vec F S1024x64 .f32 := k2_pay4 (iblk V c 0 t2_0) (iblk V c 2 t2_0) (iblk V c 1 t2_0) (iblk V c 3 t2_0)

/-- The accumulator after `n` points. -/
def accN (c : Dev nD) : ℕ → F .f32
  | 0 => Scalar.ofBits .f32 0x00000000#32
  | n + 1 => if h : n < cfg2.N then stepOf (grid2.coords ⟨n, h⟩) (aV V c) (btV V c) (coefV V c) (iblk V c 5 ⟨n, h⟩) (iblk V c 4 ⟨n, h⟩) (accN c n) else accN c n

theorem accN_succ (c : Dev nD) (t : Fin cfg2.N) :
    accN V c (t.val + 1) = stepOf (grid2.coords t) (aV V c) (btV V c) (coefV V c) (iblk V c 5 t) (iblk V c 4 t) (accN V c t.val) := by
  rw [accN, dif_pos t.isLt]

/-- The scratch buffers at any contents. -/
def anyScr (c : Dev nD) : sProp 𝕄 :=
  iprop((∃ d, owns (c : Thread nD τ) (Memref.whole cc2_scratch0) fullShare d) ∗ (∃ d, owns (c : Thread nD τ) (Memref.whole cc2_scratch1) fullShare d)
    ∗ (∃ d, owns (c : Thread nD τ) (Memref.whole cc2_scratch2) fullShare d) ∗ (∃ d, owns (c : Thread nD τ) (Memref.whole cc2_scratch3) fullShare d))

/-- The scratch buffers after `n` points. -/
def scrAt (c : Dev nD) (n : ℕ) : sProp 𝕄 :=
  iprop(owns (c : Thread nD τ) (Memref.whole cc2_scratch0) fullShare (aV V c) ∗ owns (c : Thread nD τ) (Memref.whole cc2_scratch1) fullShare (btV V c)
    ∗ owns (c : Thread nD τ) (Memref.whole cc2_scratch2) fullShare (fun _ => coefV V c) ∗ owns (c : Thread nD τ) (Memref.whole cc2_scratch3) fullShare (fun _ => accN V c n))

/-- Every other scoped buffer. -/
abbrev scopedOther (c : Dev nD) : sProp 𝕄 :=
  Pipeline.scopedRestBut spec2 c [cc2_scratch0, cc2_scratch1, cc2_scratch2, cc2_scratch3]

theorem rest_split (c : Dev nD) :
    (Pipeline.scopedRest spec2 c : sProp 𝕄) = iprop(anyScr (F := F) c ∗ scopedOther (F := F) c) := by
  rw [scopedRest2_split]
  unfold anyScr
  simp only [owns_whole]

/-- The proof data of the call on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 V c
    | ⟨8, _⟩ => k2_pay1 (accN V c cfg2.N)
  Φ k := Fin.cases (motive := fun _ => sProp 𝕄) iprop(anyScr (F := F) c ∗ scopedOther (F := F) c)
    (fun t => iprop(scrAt V c (t.val + 1) ∗ scopedOther (F := F) c)) k
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = out7 V c := by dsimp only [dat]
theorem after_8 (c : Dev nD) (t : Fin cfg2.N) : (dat V c).after 8 t = k2_pay1 (accN V c cfg2.N) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d

/-- After the first point the first result's buffer holds its block. -/
theorem before_7 (c : Dev nD) (d) : ∀ (n : ℕ) (t : Fin cfg2.N), t.val = n + 1 → (dat V c).before 7 t d = out7 V c
  | n, t, h => by
    have ht : t.val < 8 := Nat.lt_of_lt_of_eq t.isLt N_2
    rw [Dat.before_of_pos _ 7 t (by omega) ((cfg2.win 7).fetch_out rfl t), noflush7 (prev t) (by simp only [prev]; omega), if_neg Bool.false_ne_true]
    unfold Dat.left
    cases n with
    | zero =>
      rw [live7 (prev t) (by simp only [prev]; omega)]
      exact after_7 V c _
    | succ n =>
      rw [idle7 (prev t) (by simp only [prev]; omega)]
      exact before_7 c d n (prev t) (by simp only [prev]; omega)

theorem Φ_succ (c : Dev nD) (t : Fin cfg2.N) : (dat V c).Φ t.succ = iprop(scrAt V c (t.val + 1) ∗ scopedOther (F := F) c) := rfl

theorem Φ_zero (c : Dev nD) : (dat V c).Φ 0 = iprop(anyScr (F := F) c ∗ scopedOther (F := F) c) := rfl

theorem Φ_castSucc (c : Dev nD) (t : Fin cfg2.N) (h : t.val ≠ 0) :
    (dat V c).Φ t.castSucc = iprop(scrAt V c t.val ∗ scopedOther (F := F) c) := by
  have e : t.castSucc = (prev t).succ := Fin.ext (by simp only [Fin.val_castSucc, Fin.val_succ]; omega)
  rw [e, Φ_succ]
  have e2 : (prev t).val + 1 = t.val := by simp only [prev]; omega
  rw [e2]

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ (dat V c).leavesExact 7 t ∗ (dat V c).leavesExact 8 t)

theorem sound_first (c : Dev nD) (t : Fin cfg2.N) (h : t.val = 0) :
    bodyPre V c t ⊢ wp frame (wpE (defs₀ (F := F)) Variants.none c none) Set.univ (bodyAt2 t) (fun _ => bodyPost V c t) := by
  unfold bodyPre bodyPost bodyAt2
  rw [show (dat V c).leavesExact 7 t = owns (c : Thread nD τ) (st2_7 t) fullShare ((dat V c).after 7 t) from by unfold Dat.leavesExact; rw [live7 t h], Dat.leavesExact_idle _ 8 t (idle8 t (by omega)) (noflush8 t (by omega)), after_7]
  simp only [before_0, before_1, before_2, before_3, before_4, before_5, before_6]
  rw [Φ_succ, show (dat V c).owesAt () t.succ = (dat V c).owesAt () t.castSucc from rfl, after_0, after_1, after_2, after_3, after_4, after_5, after_6, show t.castSucc = 0 from Fin.ext h, Φ_zero]
  unfold scrAt anyScr
  iintro ⟨⟨⟨⟨%s0, HS0⟩, ⟨%s1, HS1⟩, ⟨%s2, HS2⟩, ⟨%s3, HS3⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [accN_succ]
  obtain rfl : t = t2_0 := Fin.ext h
  iapply (runA c (grid2.coords t2_0) _ _ _ _ _ _ _ _ _ _ _ _ _ _ _ _ _ _ _ _ _ _ _ _ _ _ ((hcond0 t2_0).mpr rfl) (fun hc => absurd ((hcond7 t2_0).mp hc) (by decide)) (iblk V c 0 t2_0) (iblk V c 1 t2_0) (iblk V c 2 t2_0) (iblk V c 3 t2_0) (iblk V c 4 t2_0) (iblk V c 5 t2_0) (iblk V c 6 t2_0) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexists _; iexact HS0
  isplitl [HS1]; · iexists _; iexact HS1
  isplitl [HS2]; · iexists _; iexact HS2
  isplitl [HS3]; · iexists _; iexact HS3
  iintro ⟨H0, H1, H2, H3, H4, H5, H6, H7, H8, HS0, HS1, HS2, HS3⟩
  isplitl [HS0 HS1 HS2 HS3 HR]
  · isplitl [HS0 HS1 HS2 HS3]
    · isplitl [HS0]; · iexact HS0
      isplitl [HS1]; · iexact HS1
      isplitl [HS2]; · iexact HS2
      iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem sound_mid (c : Dev nD) (t : Fin cfg2.N) (h0 : t.val ≠ 0) (h7 : t.val ≠ 7) :
    bodyPre V c t ⊢ wp frame (wpE (defs₀ (F := F)) Variants.none c none) Set.univ (bodyAt2 t) (fun _ => bodyPost V c t) := by
  unfold bodyPre bodyPost bodyAt2
  rw [Dat.leavesExact_idle _ 7 t (idle7 t h0) (noflush7 t h7), Dat.leavesExact_idle _ 8 t (idle8 t h7) (noflush8 t h7)]
  simp only [before_0, before_1, before_2, before_3, before_4, before_5, before_6]
  rw [Φ_succ, show (dat V c).owesAt () t.succ = (dat V c).owesAt () t.castSucc from rfl, after_0, after_1, after_2, after_3, after_4, after_5, after_6, Φ_castSucc V c t h0]
  unfold scrAt
  iintro ⟨⟨⟨HS0, HS1, HS2, HS3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [accN_succ]
  iapply (runB c (grid2.coords t) _ _ _ _ _ _ _ _ _ _ _ _ _ _ _ _ _ _ _ _ _ _ _ _ _ _ (fun hc => h0 ((hcond0 t).mp hc)) (fun hc => h7 ((hcond7 t).mp hc)) (iblk V c 0 t) (iblk V c 1 t) (iblk V c 2 t) (iblk V c 3 t) (iblk V c 4 t) (iblk V c 5 t) (iblk V c 6 t) _ _ (aV V c) (btV V c) (coefV V c) (accN V c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 HR]
  · isplitl [HS0 HS1 HS2 HS3]
    · isplitl [HS0]; · iexact HS0
      isplitl [HS1]; · iexact HS1
      isplitl [HS2]; · iexact HS2
      iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

theorem sound_last (c : Dev nD) (t : Fin cfg2.N) (h : t.val = 7) :
    bodyPre V c t ⊢ wp frame (wpE (defs₀ (F := F)) Variants.none c none) Set.univ (bodyAt2 t) (fun _ => bodyPost V c t) := by
  unfold bodyPre bodyPost bodyAt2
  rw [show (dat V c).leavesExact 7 t = owns (c : Thread nD τ) (st2_7 t) fullShare ((dat V c).after 7 t) from by unfold Dat.leavesExact; rw [idle7 t (by omega), doflush7 t h], show (dat V c).leavesExact 8 t = owns (c : Thread nD τ) (st2_8 t) fullShare ((dat V c).after 8 t) from by unfold Dat.leavesExact; rw [live8 t h], after_7, after_8, show accN V c cfg2.N = accN V c (t.val + 1) from by rw [h]; exact congrArg (accN V c) N_2]
  simp only [fun d => before_7 V c d 6 t (by omega), before_0, before_1, before_2, before_3, before_4, before_5, before_6]
  rw [Φ_succ, show (dat V c).owesAt () t.succ = (dat V c).owesAt () t.castSucc from rfl, after_0, after_1, after_2, after_3, after_4, after_5, after_6, Φ_castSucc V c t (by omega)]
  unfold scrAt
  iintro ⟨⟨⟨HS0, HS1, HS2, HS3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [accN_succ]
  iapply (runC c (grid2.coords t) _ _ _ _ _ _ _ _ _ _ _ _ _ _ _ _ _ _ _ _ _ _ _ _ _ _ (fun hc => absurd ((hcond0 t).mp hc) (by omega)) ((hcond7 t).mpr h) (iblk V c 0 t) (iblk V c 1 t) (iblk V c 2 t) (iblk V c 3 t) (iblk V c 4 t) (iblk V c 5 t) (iblk V c 6 t) _ (aV V c) (btV V c) (coefV V c) (accN V c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 HR]
  · isplitl [HS0 HS1 HS2 HS3]
    · isplitl [HS0]; · iexact HS0
      isplitl [HS1]; · iexact HS1
      isplitl [HS2]; · iexact HS2
      iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg2.N) :
    bodyPre V c t ⊢ wp frame (wpE (defs₀ (F := F)) Variants.none c none) Set.univ (bodyAt2 t) (fun _ => bodyPost V c t) := by
  by_cases h0 : t.val = 0
  · exact sound_first V c t h0
  · by_cases h7 : t.val = 7
    · exact sound_last V c t h7
    · exact sound_mid V c t h0 h7

theorem defs₀_row (t : Fin cfg2.N) :
    defs₀ (F := F) .tc cfg2.body (cfg2.bodyArgs t (cfg2.slots t)) = bodyAt2 t := by
  unfold defs₀; rw [Defs.onTc_tc]

/-- The body obligation of the third call. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- What the invariant is at the last point: the scratch at some contents again. -/
theorem Φ_last (c : Dev nD) : (dat V c).Φ (Fin.last cfg2.N) ⊢ (Pipeline.scopedRest spec2 c : sProp 𝕄) := by
  have e : (Fin.last cfg2.N) = (t2_7 : Fin cfg2.N).succ := Fin.ext N_2
  rw [e, Φ_succ, rest_split]
  unfold scrAt anyScr
  iintro ⟨⟨HS0, HS1, HS2, HS3⟩, HR⟩
  isplitl [HS0 HS1 HS2 HS3]
  · isplitl [HS0]; · iexists _; iexact HS0
    isplitl [HS1]; · iexists _; iexact HS1
    isplitl [HS2]; · iexists _; iexact HS2
    iexists _; iexact HS3
  iexact HR

end Cert.KernelIdeal.Region2
end
-- ==== Proof.KernelIdealRun.lean ====
module

public import proofs.«01_k».proof.Proof.Gen.KernelIdeal.Regions
public import proofs.«01_k».proof.Proof.KernelIdealRegion0
public import proofs.«01_k».proof.Proof.KernelIdealRegion1
public import proofs.«01_k».proof.Proof.KernelIdealRegion2
public import Idealize.ShloMosaic.Lib.Pipeline.Kit
public import Idealize.ShloMosaic.Lib.Pipeline.FrameBody
public import Idealize.ShloMosaic.Lib.Pipeline.RegionsLoop
public import Idealize.ShloMosaic.Lib.Claim
public import Idealize.ShloMosaic.Lib.Ring
public import Idealize.ShloMosaic.Lib.Tactic
public import Idealize.ShloMosaic.Lib.WordCmp

/-! The run of the whole program: the three calls' records, the contents between the items, and the final state. -/

@[expose] public section

set_option maxRecDepth 16384

noncomputable section

namespace Cert.KernelIdeal.Run

open Cert.KernelIdeal Cert.KernelIdeal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers before the first call. -/
def W1 (c : Dev nD) : Valuation τ sig (Elt F) := StableHlo.after hostOps0 (fun b => m (c, b))
/-- The same, by reference. -/
def b1 (c : Dev nD) (b : Ref sig .tc) : Buf (Elt F) ((c : Thread nD τ).loc b) := W1 m c b

/-- The buffers after the first call. -/
def W2 (c : Dev nD) : Valuation τ sig (Elt F) := Function.update (Function.update (Function.update (Function.update (Function.update (Function.update (W1 m c) main_call0_v4_0 ((Region0.dat (b1 m) c).arrAt 3 cfg0.N)) main_call0_v4_1 ((Region0.dat (b1 m) c).arrAt 4 cfg0.N)) main_call0_v4_2 ((Region0.dat (b1 m) c).arrAt 5 cfg0.N)) main_call0_v4_3 ((Region0.dat (b1 m) c).arrAt 6 cfg0.N)) main_call0_v4_4 ((Region0.dat (b1 m) c).arrAt 7 cfg0.N)) main_call0_v4_5 ((Region0.dat (b1 m) c).arrAt 8 cfg0.N)
def b2 (c : Dev nD) (b : Ref sig .tc) : Buf (Elt F) ((c : Thread nD τ).loc b) := W2 m c b
theorem W2_0 (c : Dev nD) : W2 m c main_call0_v4_0 = ((Region0.dat (b1 m) c).arrAt 3 cfg0.N) := by
  unfold W2
  rw [Function.update_of_ne (StableHlo.devRef_ne_of_ne (by decide) : (Proc.devRef .tc main_call0_v4_0 : DevRef τ sig) ≠ Proc.devRef .tc main_call0_v4_5), Function.update_of_ne (StableHlo.devRef_ne_of_ne (by decide) : (Proc.devRef .tc main_call0_v4_0 : DevRef τ sig) ≠ Proc.devRef .tc main_call0_v4_4), Function.update_of_ne (StableHlo.devRef_ne_of_ne (by decide) : (Proc.devRef .tc main_call0_v4_0 : DevRef τ sig) ≠ Proc.devRef .tc main_call0_v4_3), Function.update_of_ne (StableHlo.devRef_ne_of_ne (by decide) : (Proc.devRef .tc main_call0_v4_0 : DevRef τ sig) ≠ Proc.devRef .tc main_call0_v4_2), Function.update_of_ne (StableHlo.devRef_ne_of_ne (by decide) : (Proc.devRef .tc main_call0_v4_0 : DevRef τ sig) ≠ Proc.devRef .tc main_call0_v4_1)]
  exact Function.update_self _ _ _
theorem W2_1 (c : Dev nD) : W2 m c main_call0_v4_1 = ((Region0.dat (b1 m) c).arrAt 4 cfg0.N) := by
  unfold W2
  rw [Function.update_of_ne (StableHlo.devRef_ne_of_ne (by decide) : (Proc.devRef .tc main_call0_v4_1 : DevRef τ sig) ≠ Proc.devRef .tc main_call0_v4_5), Function.update_of_ne (StableHlo.devRef_ne_of_ne (by decide) : (Proc.devRef .tc main_call0_v4_1 : DevRef τ sig) ≠ Proc.devRef .tc main_call0_v4_4), Function.update_of_ne (StableHlo.devRef_ne_of_ne (by decide) : (Proc.devRef .tc main_call0_v4_1 : DevRef τ sig) ≠ Proc.devRef .tc main_call0_v4_3), Function.update_of_ne (StableHlo.devRef_ne_of_ne (by decide) : (Proc.devRef .tc main_call0_v4_1 : DevRef τ sig) ≠ Proc.devRef .tc main_call0_v4_2)]
  exact Function.update_self _ _ _
theorem W2_2 (c : Dev nD) : W2 m c main_call0_v4_2 = ((Region0.dat (b1 m) c).arrAt 5 cfg0.N) := by
  unfold W2
  rw [Function.update_of_ne (StableHlo.devRef_ne_of_ne (by decide) : (Proc.devRef .tc main_call0_v4_2 : DevRef τ sig) ≠ Proc.devRef .tc main_call0_v4_5), Function.update_of_ne (StableHlo.devRef_ne_of_ne (by decide) : (Proc.devRef .tc main_call0_v4_2 : DevRef τ sig) ≠ Proc.devRef .tc main_call0_v4_4), Function.update_of_ne (StableHlo.devRef_ne_of_ne (by decide) : (Proc.devRef .tc main_call0_v4_2 : DevRef τ sig) ≠ Proc.devRef .tc main_call0_v4_3)]
  exact Function.update_self _ _ _
theorem W2_3 (c : Dev nD) : W2 m c main_call0_v4_3 = ((Region0.dat (b1 m) c).arrAt 6 cfg0.N) := by
  unfold W2
  rw [Function.update_of_ne (StableHlo.devRef_ne_of_ne (by decide) : (Proc.devRef .tc main_call0_v4_3 : DevRef τ sig) ≠ Proc.devRef .tc main_call0_v4_5), Function.update_of_ne (StableHlo.devRef_ne_of_ne (by decide) : (Proc.devRef .tc main_call0_v4_3 : DevRef τ sig) ≠ Proc.devRef .tc main_call0_v4_4)]
  exact Function.update_self _ _ _
theorem W2_4 (c : Dev nD) : W2 m c main_call0_v4_4 = ((Region0.dat (b1 m) c).arrAt 7 cfg0.N) := by
  unfold W2
  rw [Function.update_of_ne (StableHlo.devRef_ne_of_ne (by decide) : (Proc.devRef .tc main_call0_v4_4 : DevRef τ sig) ≠ Proc.devRef .tc main_call0_v4_5)]
  exact Function.update_self _ _ _
theorem W2_5 (c : Dev nD) : W2 m c main_call0_v4_5 = ((Region0.dat (b1 m) c).arrAt 8 cfg0.N) := by
  unfold W2
  exact Function.update_self _ _ _
theorem W2_of (c : Dev nD) (r : Ref sig .tc) (h : r ∉ ([main_call0_v4_0, main_call0_v4_1, main_call0_v4_2, main_call0_v4_3, main_call0_v4_4, main_call0_v4_5] : List (Ref sig .tc))) : W2 m c r = W1 m c r := by
  simp only [W2, Function.update_of_ne (StableHlo.devRef_ne_of_ne (List.ne_of_not_mem_cons h) : (Proc.devRef .tc r : DevRef τ sig) ≠ Proc.devRef .tc main_call0_v4_0), Function.update_of_ne (StableHlo.devRef_ne_of_ne (List.ne_of_not_mem_cons (List.not_mem_of_not_mem_cons h)) : (Proc.devRef .tc r : DevRef τ sig) ≠ Proc.devRef .tc main_call0_v4_1), Function.update_of_ne (StableHlo.devRef_ne_of_ne (List.ne_of_not_mem_cons (List.not_mem_of_not_mem_cons (List.not_mem_of_not_mem_cons h))) : (Proc.devRef .tc r : DevRef τ sig) ≠ Proc.devRef .tc main_call0_v4_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_call0_v4_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_call0_v4_4), Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons h)))))) : (Proc.devRef .tc r : DevRef τ sig) ≠ Proc.devRef .tc main_call0_v4_5)]

/-- The buffers before the second call. -/
def W3 (c : Dev nD) : Valuation τ sig (Elt F) := StableHlo.after hostOps1 (W2 m c)
def b3 (c : Dev nD) (b : Ref sig .tc) : Buf (Elt F) ((c : Thread nD τ).loc b) := W3 m c b

/-- The buffers after the second call. -/
def W4 (c : Dev nD) : Valuation τ sig (Elt F) := Function.update (W3 m c) main_call0_v15 ((Region1.dat (b3 m) c).arrAt 9 cfg1.N)
def b4 (c : Dev nD) (b : Ref sig .tc) : Buf (Elt F) ((c : Thread nD τ).loc b) := W4 m c b
theorem W4_0 (c : Dev nD) : W4 m c main_call0_v15 = ((Region1.dat (b3 m) c).arrAt 9 cfg1.N) := by
  unfold W4
  exact Function.update_self _ _ _
theorem W4_of (c : Dev nD) (r : Ref sig .tc) (h : r ∉ ([main_call0_v15] : List (Ref sig .tc))) : W4 m c r = W3 m c r := by
  simp only [W4, Function.update_of_ne (StableHlo.devRef_ne_of_ne (List.ne_of_not_mem_cons h) : (Proc.devRef .tc r : DevRef τ sig) ≠ Proc.devRef .tc main_call0_v15)]

/-- The buffers before the third call. -/
def W5 (c : Dev nD) : Valuation τ sig (Elt F) := StableHlo.after hostOps2 (W4 m c)
def b5 (c : Dev nD) (b : Ref sig .tc) : Buf (Elt F) ((c : Thread nD τ).loc b) := W5 m c b

/-- The buffers after the third call. -/
def W6 (c : Dev nD) : Valuation τ sig (Elt F) := Function.update (Function.update (W5 m c) main_v0_0 ((Region2.dat (b5 m) c).arrAt 7 cfg2.N)) main_call0_v20_1 ((Region2.dat (b5 m) c).arrAt 8 cfg2.N)
def b6 (c : Dev nD) (b : Ref sig .tc) : Buf (Elt F) ((c : Thread nD τ).loc b) := W6 m c b
theorem W6_0 (c : Dev nD) : W6 m c main_v0_0 = ((Region2.dat (b5 m) c).arrAt 7 cfg2.N) := by
  unfold W6
  rw [Function.update_of_ne (StableHlo.devRef_ne_of_ne (by decide) : (Proc.devRef .tc main_v0_0 : DevRef τ sig) ≠ Proc.devRef .tc main_call0_v20_1)]
  exact Function.update_self _ _ _
theorem W6_1 (c : Dev nD) : W6 m c main_call0_v20_1 = ((Region2.dat (b5 m) c).arrAt 8 cfg2.N) := by
  unfold W6
  exact Function.update_self _ _ _
theorem W6_of (c : Dev nD) (r : Ref sig .tc) (h : r ∉ ([main_v0_0, main_call0_v20_1] : List (Ref sig .tc))) : W6 m c r = W5 m c r := by
  simp only [W6, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_call0_v20_1)]

/-- The buffers at the end. -/
def W7 (c : Dev nD) : Valuation τ sig (Elt F) := StableHlo.after hostOps3 (W6 m c)
def b7 (c : Dev nD) (b : Ref sig .tc) : Buf (Elt F) ((c : Thread nD τ).loc b) := W7 m c b

/-- What the calls leave, in the form the generated valuations take it. -/
def outs : Outs (F := F) := fun J r c =>
  if J = 2 then W2 m c r else if J = 4 then W4 m c r else W6 m c r

theorem outs_2 (r : Ref sig .tc) (c : Dev nD) : outs m 2 r c = W2 m c r := by unfold outs; rw [if_pos rfl]
theorem outs_4 (r : Ref sig .tc) (c : Dev nD) : outs m 4 r c = W4 m c r := by unfold outs; rw [if_neg (by decide), if_pos rfl]
theorem outs_6 (r : Ref sig .tc) (c : Dev nD) : outs m 6 r c = W6 m c r := by unfold outs; rw [if_neg (by decide), if_neg (by decide)]
theorem V1_eq (c : Dev nD) : V1 m c = W1 m c := by unfold W1; rfl

theorem V2_eq (c : Dev nD) : V2 m (outs m) c = W2 m c := by
  have h0 : outs m 2 main_call0_v4_0 c = _ := (outs_2 m _ c).trans (W2_0 m c)
  have h1 : outs m 2 main_call0_v4_1 c = _ := (outs_2 m _ c).trans (W2_1 m c)
  have h2 : outs m 2 main_call0_v4_2 c = _ := (outs_2 m _ c).trans (W2_2 m c)
  have h3 : outs m 2 main_call0_v4_3 c = _ := (outs_2 m _ c).trans (W2_3 m c)
  have h4 : outs m 2 main_call0_v4_4 c = _ := (outs_2 m _ c).trans (W2_4 m c)
  have h5 : outs m 2 main_call0_v4_5 c = _ := (outs_2 m _ c).trans (W2_5 m c)
  unfold V2 W2
  rw [V1_eq, h0, h1, h2, h3, h4, h5]
theorem V4_eq (c : Dev nD) : V4 m (outs m) c = W4 m c := by
  have e : V3 m (outs m) c = W3 m c := by unfold V3 W3; rw [V2_eq]
  have h0 : outs m 4 main_call0_v15 c = _ := (outs_4 m _ c).trans (W4_0 m c)
  unfold V4 W4
  rw [e, h0]
theorem V6_eq (c : Dev nD) : V6 m (outs m) c = W6 m c := by
  have e : V5 m (outs m) c = W5 m c := by unfold V5 W5; rw [V4_eq]
  have h0 : outs m 6 main_v0_0 c = _ := (outs_6 m _ c).trans (W6_0 m c)
  have h1 : outs m 6 main_call0_v20_1 c = _ := (outs_6 m _ c).trans (W6_1 m c)
  unfold V6 W6
  rw [e, h0, h1]
theorem V3_eq (c : Dev nD) : V3 m (outs m) c = W3 m c := by unfold V3 W3; rw [V2_eq]
theorem V5_eq (c : Dev nD) : V5 m (outs m) c = W5 m c := by unfold V5 W5; rw [V4_eq]
theorem V7_eq (c : Dev nD) : V7 m (outs m) c = W7 m c := by unfold V7 W7; rw [V6_eq]

/-- The proof data of the three calls. -/
def pdats : (p : Fin 3) → (c : Dev nD) → Dat τ (Elt F) Unit ℕ (UR sig nD τ) ℕ (cfgs p) c
  | 0 => Region0.dat (b1 m)
  | 1 => Region1.dat (b3 m)
  | 2 => Region2.dat (b5 m)

/-- No core owes anything. -/
abbrev own0 (c : Dev nD) : sProp 𝕄 := iprop(∃ W, owes (c : Thread nD τ) (0 : CellTallies nD τ sig Unit) W)

theorem arr0_0 (c : Dev nD) : (pdats m 0 c).arrAt 0 cfg0.N = b2 m c (Pipeline.arrRef spec0 0) := by
  rw [Dat.arrAt_in _ 0 rfl]
  have h : b2 m c (Pipeline.arrRef spec0 0) = b1 m c (Pipeline.arrRef spec0 0) := W2_of m c main_arg0 (by decide)
  rw [h]
  exact Region0.A_eq (b1 m) c 0
theorem arr0_1 (c : Dev nD) : (pdats m 0 c).arrAt 1 cfg0.N = b2 m c (Pipeline.arrRef spec0 1) := by
  rw [Dat.arrAt_in _ 1 rfl]
  have h : b2 m c (Pipeline.arrRef spec0 1) = b1 m c (Pipeline.arrRef spec0 1) := W2_of m c main_call0_v3 (by decide)
  rw [h]
  exact Region0.A_eq (b1 m) c 1
theorem arr0_2 (c : Dev nD) : (pdats m 0 c).arrAt 2 cfg0.N = b2 m c (Pipeline.arrRef spec0 2) := by
  rw [Dat.arrAt_in _ 2 rfl]
  have h : b2 m c (Pipeline.arrRef spec0 2) = b1 m c (Pipeline.arrRef spec0 2) := W2_of m c main_call0_cst (by decide)
  rw [h]
  exact Region0.A_eq (b1 m) c 2
theorem arr0_3 (c : Dev nD) : (pdats m 0 c).arrAt 3 cfg0.N = b2 m c (Pipeline.arrRef spec0 3) := (W2_0 m c).symm
theorem arr0_4 (c : Dev nD) : (pdats m 0 c).arrAt 4 cfg0.N = b2 m c (Pipeline.arrRef spec0 4) := (W2_1 m c).symm
theorem arr0_5 (c : Dev nD) : (pdats m 0 c).arrAt 5 cfg0.N = b2 m c (Pipeline.arrRef spec0 5) := (W2_2 m c).symm
theorem arr0_6 (c : Dev nD) : (pdats m 0 c).arrAt 6 cfg0.N = b2 m c (Pipeline.arrRef spec0 6) := (W2_3 m c).symm
theorem arr0_7 (c : Dev nD) : (pdats m 0 c).arrAt 7 cfg0.N = b2 m c (Pipeline.arrRef spec0 7) := (W2_4 m c).symm
theorem arr0_8 (c : Dev nD) : (pdats m 0 c).arrAt 8 cfg0.N = b2 m c (Pipeline.arrRef spec0 8) := (W2_5 m c).symm

set_option backward.isDefEq.respectTransparency.types false in
/-- The record of call 0. -/
def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (Region0.body_obligation (b1 m) c).loose
  hwaits := Pipeline.hwaits_of_owed_zero _ _ _ _ (fun _ => ∅) (fun _ _ => 0) 0 fun _ _ => rfl
  pre c := iprop(unscopedBufs c (b1 m c) ∗ own0 (F := F) c)
  post c := iprop(unscopedBufs c (b2 m c) ∗ own0 (F := F) c)
  X _ := BI.emp
  Y _ := BI.emp
  Z c := iprop(Pipeline.unscopedRest (Ix := Unit) (Name := ℕ) (U := UR sig nD τ) (Lvl := ℕ) spec0 c (b1 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (b1 m c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    rw [show (pdats m 0 c).Φ 0 = (Pipeline.scopedRest spec0 c : sProp 𝕄) from rfl]
    iintro ⟨-, -, Hr⟩
    iexact Hr
  hout c := by
    rw [Pipeline.ownSems0_none]
    rw [show (pdats m 0 c).Φ (Fin.last _) = (Pipeline.scopedRest spec0 c : sProp 𝕄) from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (b1 m c) (b2 m c) ((pdats m 0 c).arrAt · cfg0.N)
      (fun w => match w with
      | ⟨0, _⟩ => arr0_0 m c
      | ⟨1, _⟩ => arr0_1 m c
      | ⟨2, _⟩ => arr0_2 m c
      | ⟨3, _⟩ => arr0_3 m c
      | ⟨4, _⟩ => arr0_4 m c
      | ⟨5, _⟩ => arr0_5 m c
      | ⟨6, _⟩ => arr0_6 m c
      | ⟨7, _⟩ => arr0_7 m c
      | ⟨8, _⟩ => arr0_8 m c
      | ⟨_ + 9, h⟩ => absurd h (Nat.not_lt.2 (Nat.le_add_left _ _)))
      (fun b hb => W2_of m c b fun h => by
        simp only [List.mem_cons, List.not_mem_nil, or_false] at h
        rcases h with h | h
        · exact hb (h ▸ Finset.mem_image.mpr ⟨3, Finset.mem_univ _, rfl⟩)
        rcases h with h | h
        · exact hb (h ▸ Finset.mem_image.mpr ⟨4, Finset.mem_univ _, rfl⟩)
        rcases h with h | h
        · exact hb (h ▸ Finset.mem_image.mpr ⟨5, Finset.mem_univ _, rfl⟩)
        rcases h with h | h
        · exact hb (h ▸ Finset.mem_image.mpr ⟨6, Finset.mem_univ _, rfl⟩)
        rcases h with h | h
        · exact hb (h ▸ Finset.mem_image.mpr ⟨7, Finset.mem_univ _, rfl⟩)
        exact hb (h ▸ Finset.mem_image.mpr ⟨8, Finset.mem_univ _, rfl⟩))
    iintro ⟨Ha, HO, -, Hrest⟩
    imodintro
    isplitl [Ha Hrest]
    · iapply hjoin
      isplitl [Ha] <;> iassumption
    unfold Pipeline.Dat.owesAt Pipeline.owesWithin
    icases HO with ⟨%W, -, HO⟩
    iexists W
    iexact HO

theorem arr1_0 (c : Dev nD) : (pdats m 1 c).arrAt 0 cfg1.N = b4 m c (Pipeline.arrRef spec1 0) := by
  rw [Dat.arrAt_in _ 0 rfl]
  have h : b4 m c (Pipeline.arrRef spec1 0) = b3 m c (Pipeline.arrRef spec1 0) := W4_of m c main_call0_v9 (by decide)
  rw [h]
  exact Region1.A_eq (b3 m) c 0
theorem arr1_1 (c : Dev nD) : (pdats m 1 c).arrAt 1 cfg1.N = b4 m c (Pipeline.arrRef spec1 1) := by
  rw [Dat.arrAt_in _ 1 rfl]
  have h : b4 m c (Pipeline.arrRef spec1 1) = b3 m c (Pipeline.arrRef spec1 1) := W4_of m c main_arg2 (by decide)
  rw [h]
  exact Region1.A_eq (b3 m) c 1
theorem arr1_2 (c : Dev nD) : (pdats m 1 c).arrAt 2 cfg1.N = b4 m c (Pipeline.arrRef spec1 2) := by
  rw [Dat.arrAt_in _ 2 rfl]
  have h : b4 m c (Pipeline.arrRef spec1 2) = b3 m c (Pipeline.arrRef spec1 2) := W4_of m c main_call0_v10 (by decide)
  rw [h]
  exact Region1.A_eq (b3 m) c 2
theorem arr1_3 (c : Dev nD) : (pdats m 1 c).arrAt 3 cfg1.N = b4 m c (Pipeline.arrRef spec1 3) := by
  rw [Dat.arrAt_in _ 3 rfl]
  have h : b4 m c (Pipeline.arrRef spec1 3) = b3 m c (Pipeline.arrRef spec1 3) := W4_of m c main_arg4 (by decide)
  rw [h]
  exact Region1.A_eq (b3 m) c 3
theorem arr1_4 (c : Dev nD) : (pdats m 1 c).arrAt 4 cfg1.N = b4 m c (Pipeline.arrRef spec1 4) := by
  rw [Dat.arrAt_in _ 4 rfl]
  have h : b4 m c (Pipeline.arrRef spec1 4) = b3 m c (Pipeline.arrRef spec1 4) := W4_of m c main_call0_v11 (by decide)
  rw [h]
  exact Region1.A_eq (b3 m) c 4
theorem arr1_5 (c : Dev nD) : (pdats m 1 c).arrAt 5 cfg1.N = b4 m c (Pipeline.arrRef spec1 5) := by
  rw [Dat.arrAt_in _ 5 rfl]
  have h : b4 m c (Pipeline.arrRef spec1 5) = b3 m c (Pipeline.arrRef spec1 5) := W4_of m c main_call0_v12 (by decide)
  rw [h]
  exact Region1.A_eq (b3 m) c 5
theorem arr1_6 (c : Dev nD) : (pdats m 1 c).arrAt 6 cfg1.N = b4 m c (Pipeline.arrRef spec1 6) := by
  rw [Dat.arrAt_in _ 6 rfl]
  have h : b4 m c (Pipeline.arrRef spec1 6) = b3 m c (Pipeline.arrRef spec1 6) := W4_of m c main_call0_v13 (by decide)
  rw [h]
  exact Region1.A_eq (b3 m) c 6
theorem arr1_7 (c : Dev nD) : (pdats m 1 c).arrAt 7 cfg1.N = b4 m c (Pipeline.arrRef spec1 7) := by
  rw [Dat.arrAt_in _ 7 rfl]
  have h : b4 m c (Pipeline.arrRef spec1 7) = b3 m c (Pipeline.arrRef spec1 7) := W4_of m c main_arg8 (by decide)
  rw [h]
  exact Region1.A_eq (b3 m) c 7
theorem arr1_8 (c : Dev nD) : (pdats m 1 c).arrAt 8 cfg1.N = b4 m c (Pipeline.arrRef spec1 8) := by
  rw [Dat.arrAt_in _ 8 rfl]
  have h : b4 m c (Pipeline.arrRef spec1 8) = b3 m c (Pipeline.arrRef spec1 8) := W4_of m c main_call0_v14 (by decide)
  rw [h]
  exact Region1.A_eq (b3 m) c 8
theorem arr1_9 (c : Dev nD) : (pdats m 1 c).arrAt 9 cfg1.N = b4 m c (Pipeline.arrRef spec1 9) := (W4_0 m c).symm

set_option backward.isDefEq.respectTransparency.types false in
/-- The record of call 1. -/
def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (Region1.body_obligation (b3 m) c).loose
  hwaits := Pipeline.hwaits_of_owed_zero _ _ _ _ (fun _ => ∅) (fun _ _ => 0) 1 fun _ _ => rfl
  pre c := iprop(unscopedBufs c (b3 m c) ∗ own0 (F := F) c)
  post c := iprop(unscopedBufs c (b4 m c) ∗ own0 (F := F) c)
  X _ := BI.emp
  Y _ := BI.emp
  Z c := iprop(Pipeline.unscopedRest (Ix := Unit) (Name := ℕ) (U := UR sig nD τ) (Lvl := ℕ) spec1 c (b3 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (b3 m c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    have e : (pdats m 1 c).Φ 0 = (Pipeline.scopedRest spec1 c : sProp 𝕄) := (Region1.Φ_zero (b3 m) c).trans (Region1.rest_split c).symm
    rw [e]
    iintro ⟨-, -, Hr⟩
    iexact Hr
  hout c := by
    rw [Pipeline.ownSems0_none]
    have e : (pdats m 1 c).Φ (Fin.last _) ⊢ (Pipeline.scopedRest spec1 c : sProp 𝕄) := Region1.Φ_last (b3 m) c
    iintro Hr
    isplitr; · iempintro
    isplitr; · iempintro
    iapply e
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (b3 m c) (b4 m c) ((pdats m 1 c).arrAt · cfg1.N)
      (fun w => match w with
      | ⟨0, _⟩ => arr1_0 m c
      | ⟨1, _⟩ => arr1_1 m c
      | ⟨2, _⟩ => arr1_2 m c
      | ⟨3, _⟩ => arr1_3 m c
      | ⟨4, _⟩ => arr1_4 m c
      | ⟨5, _⟩ => arr1_5 m c
      | ⟨6, _⟩ => arr1_6 m c
      | ⟨7, _⟩ => arr1_7 m c
      | ⟨8, _⟩ => arr1_8 m c
      | ⟨9, _⟩ => arr1_9 m c
      | ⟨_ + 10, h⟩ => absurd h (Nat.not_lt.2 (Nat.le_add_left _ _)))
      (fun b hb => W4_of m c b fun h => by
        simp only [List.mem_cons, List.not_mem_nil, or_false] at h
        exact hb (h ▸ Finset.mem_image.mpr ⟨9, Finset.mem_univ _, rfl⟩))
    iintro ⟨Ha, HO, -, Hrest⟩
    imodintro
    isplitl [Ha Hrest]
    · iapply hjoin
      isplitl [Ha] <;> iassumption
    unfold Pipeline.Dat.owesAt Pipeline.owesWithin
    icases HO with ⟨%W, -, HO⟩
    iexists W
    iexact HO

theorem arr2_0 (c : Dev nD) : (pdats m 2 c).arrAt 0 cfg2.N = b6 m c (Pipeline.arrRef spec2 0) := by
  rw [Dat.arrAt_in _ 0 rfl]
  have h : b6 m c (Pipeline.arrRef spec2 0) = b5 m c (Pipeline.arrRef spec2 0) := W6_of m c main_call0_v4_0 (by decide)
  rw [h]
  exact Region2.A_eq (b5 m) c 0
theorem arr2_1 (c : Dev nD) : (pdats m 2 c).arrAt 1 cfg2.N = b6 m c (Pipeline.arrRef spec2 1) := by
  rw [Dat.arrAt_in _ 1 rfl]
  have h : b6 m c (Pipeline.arrRef spec2 1) = b5 m c (Pipeline.arrRef spec2 1) := W6_of m c main_call0_v4_1 (by decide)
  rw [h]
  exact Region2.A_eq (b5 m) c 1
theorem arr2_2 (c : Dev nD) : (pdats m 2 c).arrAt 2 cfg2.N = b6 m c (Pipeline.arrRef spec2 2) := by
  rw [Dat.arrAt_in _ 2 rfl]
  have h : b6 m c (Pipeline.arrRef spec2 2) = b5 m c (Pipeline.arrRef spec2 2) := W6_of m c main_call0_v17 (by decide)
  rw [h]
  exact Region2.A_eq (b5 m) c 2
theorem arr2_3 (c : Dev nD) : (pdats m 2 c).arrAt 3 cfg2.N = b6 m c (Pipeline.arrRef spec2 3) := by
  rw [Dat.arrAt_in _ 3 rfl]
  have h : b6 m c (Pipeline.arrRef spec2 3) = b5 m c (Pipeline.arrRef spec2 3) := W6_of m c main_call0_v19 (by decide)
  rw [h]
  exact Region2.A_eq (b5 m) c 3
theorem arr2_4 (c : Dev nD) : (pdats m 2 c).arrAt 4 cfg2.N = b6 m c (Pipeline.arrRef spec2 4) := by
  rw [Dat.arrAt_in _ 4 rfl]
  have h : b6 m c (Pipeline.arrRef spec2 4) = b5 m c (Pipeline.arrRef spec2 4) := W6_of m c main_call0_v1 (by decide)
  rw [h]
  exact Region2.A_eq (b5 m) c 4
theorem arr2_5 (c : Dev nD) : (pdats m 2 c).arrAt 5 cfg2.N = b6 m c (Pipeline.arrRef spec2 5) := by
  rw [Dat.arrAt_in _ 5 rfl]
  have h : b6 m c (Pipeline.arrRef spec2 5) = b5 m c (Pipeline.arrRef spec2 5) := W6_of m c main_call0_v2 (by decide)
  rw [h]
  exact Region2.A_eq (b5 m) c 5
theorem arr2_6 (c : Dev nD) : (pdats m 2 c).arrAt 6 cfg2.N = b6 m c (Pipeline.arrRef spec2 6) := by
  rw [Dat.arrAt_in _ 6 rfl]
  have h : b6 m c (Pipeline.arrRef spec2 6) = b5 m c (Pipeline.arrRef spec2 6) := W6_of m c main_call0_v0 (by decide)
  rw [h]
  exact Region2.A_eq (b5 m) c 6
theorem arr2_7 (c : Dev nD) : (pdats m 2 c).arrAt 7 cfg2.N = b6 m c (Pipeline.arrRef spec2 7) := (W6_0 m c).symm
theorem arr2_8 (c : Dev nD) : (pdats m 2 c).arrAt 8 cfg2.N = b6 m c (Pipeline.arrRef spec2 8) := (W6_1 m c).symm

set_option backward.isDefEq.respectTransparency.types false in
/-- The record of call 2. -/
def reg2 : Pipeline.RegionSeg (pcfgs (F := F)) adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (Region2.body_obligation (b5 m) c).loose
  hwaits := Pipeline.hwaits_of_owed_zero _ _ _ _ (fun _ => ∅) (fun _ _ => 0) 2 fun _ _ => rfl
  pre c := iprop(unscopedBufs c (b5 m c) ∗ own0 (F := F) c)
  post c := iprop(unscopedBufs c (b6 m c) ∗ own0 (F := F) c)
  X _ := BI.emp
  Y _ := BI.emp
  Z c := iprop(Pipeline.unscopedRest (Ix := Unit) (Name := ℕ) (U := UR sig nD τ) (Lvl := ℕ) spec2 c (b5 m c))
  hentry c := by
    rw [Pipeline.ownSems0_none]
    have hsplit := Pipeline.arrays_of_unscopedBufs (p := 2) (pcfgs (F := F)) adm (pdats m) launch2.win launch2.arr_whole c
      ((pdats m 2 c).share_full fun _ => rfl) (b5 m c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    have e : (pdats m 2 c).Φ 0 = (Pipeline.scopedRest spec2 c : sProp 𝕄) := (Region2.Φ_zero (b5 m) c).trans (Region2.rest_split c).symm
    rw [e]
    iintro ⟨-, -, Hr⟩
    iexact Hr
  hout c := by
    rw [Pipeline.ownSems0_none]
    have e : (pdats m 2 c).Φ (Fin.last _) ⊢ (Pipeline.scopedRest spec2 c : sProp 𝕄) := Region2.Φ_last (b5 m) c
    iintro Hr
    isplitr; · iempintro
    isplitr; · iempintro
    iapply e
    iexact Hr
  hexit c := by
    have hjoin := Pipeline.unscopedBufs_of_arrays (p := 2) (pcfgs (F := F)) adm (Ix := Unit) (Name := ℕ) (U := UR sig nD τ) (Lvl := ℕ) launch2.win launch2.arr_whole c
      (pdats m) ((pdats m 2 c).share_full fun _ => rfl) (b5 m c) (b6 m c) ((pdats m 2 c).arrAt · cfg2.N)
      (fun w => match w with
      | ⟨0, _⟩ => arr2_0 m c
      | ⟨1, _⟩ => arr2_1 m c
      | ⟨2, _⟩ => arr2_2 m c
      | ⟨3, _⟩ => arr2_3 m c
      | ⟨4, _⟩ => arr2_4 m c
      | ⟨5, _⟩ => arr2_5 m c
      | ⟨6, _⟩ => arr2_6 m c
      | ⟨7, _⟩ => arr2_7 m c
      | ⟨8, _⟩ => arr2_8 m c
      | ⟨_ + 9, h⟩ => absurd h (Nat.not_lt.2 (Nat.le_add_left _ _)))
      (fun b hb => W6_of m c b fun h => by
        simp only [List.mem_cons, List.not_mem_nil, or_false] at h
        rcases h with h | h
        · exact hb (h ▸ Finset.mem_image.mpr ⟨7, Finset.mem_univ _, rfl⟩)
        exact hb (h ▸ Finset.mem_image.mpr ⟨8, Finset.mem_univ _, rfl⟩))
    iintro ⟨Ha, HO, -, Hrest⟩
    imodintro
    isplitl [Ha Hrest]
    · iapply hjoin
      isplitl [Ha] <;> iassumption
    unfold Pipeline.Dat.owesAt Pipeline.owesWithin
    icases HO with ⟨%W, -, HO⟩
    iexists W
    iexact HO

theorem held_b (c : Dev nD) (W : Valuation τ sig (Elt F)) :
    (StableHlo.held (c : Thread nD τ) (Pipeline.ucRefs τ sig) W : sProp 𝕄) = unscopedBufs c (fun b => W b) :=
  (Pipeline.unscopedBufs_held (Ix := Unit) (Name := ℕ) (U := UR sig nD τ) (Lvl := ℕ) c W).symm

theorem pre1 (c : Dev nD) : (iprop(StableHlo.held (c : Thread nD τ) (Pipeline.ucRefs τ sig) (V1 m c) ∗ own0 (F := F) c) : sProp 𝕄) ⊢ iprop(unscopedBufs c (b1 m c) ∗ own0 (F := F) c) := by
  rw [V1_eq, held_b]
  exact .rfl
theorem post2 (c : Dev nD) : (iprop(unscopedBufs c (b2 m c) ∗ own0 (F := F) c) : sProp 𝕄) ⊢ iprop(StableHlo.held (c : Thread nD τ) (Pipeline.ucRefs τ sig) (V2 m (outs m) c) ∗ own0 (F := F) c) := by
  rw [V2_eq, held_b]
  exact .rfl
theorem pre3 (c : Dev nD) : (iprop(StableHlo.held (c : Thread nD τ) (Pipeline.ucRefs τ sig) (V3 m (outs m) c) ∗ own0 (F := F) c) : sProp 𝕄) ⊢ iprop(unscopedBufs c (b3 m c) ∗ own0 (F := F) c) := by
  rw [V3_eq, held_b]
  exact .rfl
theorem post4 (c : Dev nD) : (iprop(unscopedBufs c (b4 m c) ∗ own0 (F := F) c) : sProp 𝕄) ⊢ iprop(StableHlo.held (c : Thread nD τ) (Pipeline.ucRefs τ sig) (V4 m (outs m) c) ∗ own0 (F := F) c) := by
  rw [V4_eq, held_b]
  exact .rfl
theorem pre5 (c : Dev nD) : (iprop(StableHlo.held (c : Thread nD τ) (Pipeline.ucRefs τ sig) (V5 m (outs m) c) ∗ own0 (F := F) c) : sProp 𝕄) ⊢ iprop(unscopedBufs c (b5 m c) ∗ own0 (F := F) c) := by
  rw [V5_eq, held_b]
  exact .rfl
theorem post6 (c : Dev nD) : (iprop(unscopedBufs c (b6 m c) ∗ own0 (F := F) c) : sProp 𝕄) ⊢ iprop(StableHlo.held (c : Thread nD τ) (Pipeline.ucRefs τ sig) (V6 m (outs m) c) ∗ own0 (F := F) c) := by
  rw [V6_eq, held_b]
  exact .rfl
theorem launchRes : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu
  imodintro
  isplitl [Hu]
  · iapply (show (ownU _ : sProp 𝕄) ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => BI.emp) from by rw [BI.bigSep_emp_const])
    iempintro

theorem launchOwes (ρ : Dev nD → PrngReg) : iprop((bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ BI.emp)) ∗ levAts (fun _ => ∅) (fun _ _ => 0))
      ⊢ (|={Set.univ}=> bigSep Finset.univ (fun c : Dev nD => own0 (F := F) c) : sProp 𝕄) := by
  have h1 (c : Dev nD) : (iprop(unscopedSems0 c ∗ owes (c : Thread nD τ) (0 : CellTallies nD τ sig Unit) ∅ ∗ Pipeline.launchCred (fun _ : Dev nD => (0 : CellTallies nD τ sig Unit)) c ∗ prngReg c (ρ c) ∗ BI.emp) : sProp 𝕄) ⊢ own0 (F := F) c := by
    iintro ⟨-, HO, -, -, -⟩
    iexists _
    iexact HO
  have h : (bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ BI.emp))
      ⊢ (bigSep Finset.univ (fun c : Dev nD => own0 (F := F) c) : sProp 𝕄) := bigSep_mono fun c _ => h1 c
  iintro ⟨H, -⟩
  imodintro
  iapply h
  iexact H

set_option backward.isDefEq.respectTransparency.types false in
/-- Every weakly fair run of the program from memory `m` with zero counters ends with the results at the last valuation, the
    arguments as launched and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v0_0) = W7 m c main_v0_0 ∧ r.2.mem ((c.tc : Thread nD τ).loc main_v0_1) = W7 m c main_v0_1 ∧ r.2.mem ((c.tc : Thread nD τ).loc main_v0_2) = W7 m c main_v0_2 ∧ r.2.mem ((c.tc : Thread nD τ).loc main_v0_3) = W7 m c main_v0_3 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) := by
  refine Pipeline.θ_run_regions_kit_dev_sems (pcfgs (F := F)) adm (pdats m) () cellOf_inj emb₁ defs₀ Variants.none (fun _ => ∅) (fun _ _ => 0) m ρ main
    (segs m (outs m) Variants.none (fun _ => ∅) (fun _ _ => 0) (fun _ c => own0 (F := F) c) () (pdats m) (reg0 m) (reg1 m) (reg2 m))
    (fun c Q => by
      rewrite [main_chain c, Pipeline.Seg.run_eq_chain,
        show (segs m (outs m) Variants.none (fun _ => ∅) (fun _ _ => 0) (fun _ c => own0 (F := F) c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl) (fun _ => BI.emp)
    (initOf (Pipeline.cells cfgs cellOf_inj) (Pipeline.launchToks cfgs cellOf_inj)) launchRes
    (T₀ := fun c => iprop(StableHlo.held (c : Thread nD τ) (Pipeline.ucRefs τ sig) (V0 m c) ∗ own0 (F := F) c))
    (Tₙ := fun c => StableHlo.held (c : Thread nD τ) (Pipeline.ucRefs τ sig) (V7 m (outs m) c))
    (hch := fun c => ⟨.rfl,
      pre1 m c, post2 m c, pre3 m c, post4 m c, pre5 m c, post6 m c,
      .rfl⟩)
    (hinit := ?_) (QY := fun c s => s.mem ((c.tc : Thread nD τ).loc main_v0_0) = W7 m c main_v0_0 ∧ s.mem ((c.tc : Thread nD τ).loc main_v0_1) = W7 m c main_v0_1 ∧ s.mem ((c.tc : Thread nD τ).loc main_v0_2) = W7 m c main_v0_2 ∧ s.mem ((c.tc : Thread nD τ).loc main_v0_3) = W7 m c main_v0_3 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ BI.emp))
            : sProp 𝕄) := by
      rw [← bigSep_sep']
      exact bigSep_mono fun c _ => by rw [held_b c (V0 m c)]; exact BI.Entails.refl _
    iintro ⟨H, Hla⟩
    ihave H' := hsplit $$ H
    icases H' with ⟨Hh, Hr⟩
    imod (launchOwes (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨(h (Proc.devRef .tc main_v0_0) (Finset.mem_filter.mpr ⟨StableHlo.devRef_mem_tcRefs main_v0_0, by decide⟩)).trans (by rw [V7_eq]), (h (Proc.devRef .tc main_v0_1) (Finset.mem_filter.mpr ⟨StableHlo.devRef_mem_tcRefs main_v0_1, by decide⟩)).trans (by rw [V7_eq]), (h (Proc.devRef .tc main_v0_2) (Finset.mem_filter.mpr ⟨StableHlo.devRef_mem_tcRefs main_v0_2, by decide⟩)).trans (by rw [V7_eq]), (h (Proc.devRef .tc main_v0_3) (Finset.mem_filter.mpr ⟨StableHlo.devRef_mem_tcRefs main_v0_3, by decide⟩)).trans (by rw [V7_eq]), (h (Proc.devRef .tc main_arg0) (Finset.mem_filter.mpr ⟨StableHlo.devRef_mem_tcRefs main_arg0, by decide⟩)).trans (V7_main_arg0 m (outs m) c), (h (Proc.devRef .tc main_arg1) (Finset.mem_filter.mpr ⟨StableHlo.devRef_mem_tcRefs main_arg1, by decide⟩)).trans (V7_main_arg1 m (outs m) c), (h (Proc.devRef .tc main_arg2) (Finset.mem_filter.mpr ⟨StableHlo.devRef_mem_tcRefs main_arg2, by decide⟩)).trans (V7_main_arg2 m (outs m) c), (h (Proc.devRef .tc main_arg3) (Finset.mem_filter.mpr ⟨StableHlo.devRef_mem_tcRefs main_arg3, by decide⟩)).trans (V7_main_arg3 m (outs m) c), (h (Proc.devRef .tc main_arg4) (Finset.mem_filter.mpr ⟨StableHlo.devRef_mem_tcRefs main_arg4, by decide⟩)).trans (V7_main_arg4 m (outs m) c), (h (Proc.devRef .tc main_arg5) (Finset.mem_filter.mpr ⟨StableHlo.devRef_mem_tcRefs main_arg5, by decide⟩)).trans (V7_main_arg5 m (outs m) c), (h (Proc.devRef .tc main_arg6) (Finset.mem_filter.mpr ⟨StableHlo.devRef_mem_tcRefs main_arg6, by decide⟩)).trans (V7_main_arg6 m (outs m) c), (h (Proc.devRef .tc main_arg7) (Finset.mem_filter.mpr ⟨StableHlo.devRef_mem_tcRefs main_arg7, by decide⟩)).trans (V7_main_arg7 m (outs m) c), (h (Proc.devRef .tc main_arg8) (Finset.mem_filter.mpr ⟨StableHlo.devRef_mem_tcRefs main_arg8, by decide⟩)).trans (V7_main_arg8 m (outs m) c), (h (Proc.devRef .tc main_arg9) (Finset.mem_filter.mpr ⟨StableHlo.devRef_mem_tcRefs main_arg9, by decide⟩)).trans (V7_main_arg9 m (outs m) c)⟩
    · iexact HSI

end Cert.KernelIdeal.Run

end
-- ==== Proof.RouteMath.lean ====
module

public import Idealize.ShloMosaic.Lib.PlanTiles.StableSort
public import Idealize.ShloMosaic.Lib.Pointwise

/-! The two largest entries of a row of eight: the first place of the maximum, and the first place of
the maximum of the rest, against a stable sort. -/

@[expose] public section

noncomputable section

namespace Cert.Route

open Idealize.ShloMosaic

/-- The place of the `k`-th largest entry, ties to the lower place. -/
def top (L : Fin 8 → EReal) (k : Fin 8) : Fin 8 := sortedFrom (fun a b => decide (L b < L a)) k

/-- How many entries are below. -/
def rank (L : Fin 8 → EReal) (a : Fin 8) : ℕ := (Finset.univ.filter fun b => L b < L a).card

theorem rank_lt (L : Fin 8 → EReal) (a b : Fin 8) : rank L b < rank L a ↔ L b < L a := by
  constructor
  · intro h
    by_contra hn
    have : rank L a ≤ rank L b := Finset.card_le_card fun x hx => by
      rw [Finset.mem_filter] at hx ⊢
      exact ⟨hx.1, hx.2.trans_le (not_lt.mp hn)⟩
    omega
  · intro h
    refine Finset.card_lt_card ⟨fun x hx => ?_, fun hs => ?_⟩
    · rw [Finset.mem_filter] at hx ⊢
      exact ⟨hx.1, hx.2.trans h⟩
    · have := hs (Finset.mem_filter.mpr ⟨Finset.mem_univ b, h⟩)
      rw [Finset.mem_filter] at this
      exact lt_irrefl _ this.2

/-- Earlier in the sort: greater, or equal and at a lower place. -/
theorem top_before (L : Fin 8 → EReal) (k l : Fin 8) (h : k < l) :
    L (top L l) < L (top L k) ∨ (L (top L l) = L (top L k) ∧ top L k < top L l) := by
  have hb : (fun a b : Fin 8 => decide (L b < L a)) = fun a b => decide (rank L b < rank L a) := by
    funext a b
    exact decide_eq_decide.mpr (rank_lt L a b).symm
  have hp := PlanTiles.pairwise_stableSort_lex (rank L) (· < ·) (List.finRange 8) (List.pairwise_lt_finRange 8)
  rw [← hb] at hp
  have hq := List.pairwise_iff_get.mp hp (k.cast (length_sortPositions 8 _).symm) (l.cast (length_sortPositions 8 _).symm) h
  rcases hq with hq | ⟨hq, hr⟩
  · exact Or.inl ((rank_lt L _ _).mp hq)
  · refine Or.inr ⟨?_, hr⟩
    rcases lt_trichotomy (L (top L l)) (L (top L k)) with h1 | h1 | h1
    · exact absurd ((rank_lt L _ _).mpr h1) (by rw [show rank L (top L l) = rank L (top L k) from hq.symm]; exact lt_irrefl _)
    · exact h1
    · exact absurd ((rank_lt L _ _).mpr h1) (by rw [show rank L (top L l) = rank L (top L k) from hq.symm]; exact lt_irrefl _)

theorem top_ne (L : Fin 8 → EReal) : top L 0 ≠ top L 1 :=
  fun h => absurd (sortedFrom_injective _ h) (by decide)

/-- Against any other place. -/
theorem top_after (L : Fin 8 → EReal) (k : Fin 8) (j : Fin 8) (h : ∀ l ≤ k, j ≠ top L l) :
    L j < L (top L k) ∨ (L j = L (top L k) ∧ top L k < j) := by
  obtain ⟨l, rfl⟩ := sortedFrom_surjective (fun a b => decide (L b < L a)) j
  refine top_before L k l ?_
  by_contra hn
  exact h l (not_lt.mp hn) rfl

theorem absorb {α : Type} {ι : Type} [DecidableEq ι] (op : α → α → α) [Std.Commutative op] [Std.Associative op] (a b : α) (f : ι → α)
    (s : Finset ι) (h0 : op a b = a) (h : ∀ j ∈ s, op a (f j) = a) : op a (s.fold op b f) = a := by
  induction s using Finset.induction_on with
  | empty => exact h0
  | insert x s hx ih =>
    rw [Finset.fold_insert hx, ← Std.Associative.assoc (op := op), h x (Finset.mem_insert_self _ _)]
    exact ih fun j hj => h j (Finset.mem_insert_of_mem hj)

theorem fold_at {α : Type} (op : α → α → α) [Std.Commutative op] [Std.Associative op] (b : α) (f : Fin 8 → α) (p : Fin 8)
    (h0 : op (f p) b = f p) (h : ∀ j, j ≠ p → op (f p) (f j) = f p) : Finset.univ.fold op b f = f p := by
  rw [← Finset.insert_erase (Finset.mem_univ p), Finset.fold_insert (Finset.notMem_erase _ _)]
  exact absorb op _ _ f _ h0 fun j hj => h j (Finset.ne_of_mem_erase hj)

/-- The fold of the maximum is the entry at a place no entry exceeds. -/
theorem fold_max_at (b : EReal) (f : Fin 8 → EReal) (p : Fin 8) (h0 : b ≤ f p) (h : ∀ j, f j ≤ f p) :
    Finset.univ.fold max b f = f p :=
  fold_at max b f p (max_eq_left h0) fun j _ => max_eq_left (h j)

/-- The first place that holds the value `g`. -/
theorem fold_min_at (M : Fin 8 → EReal) (g : EReal) (p : Fin 8) (hp : M p = g) (h : ∀ j < p, M j ≠ g) :
    Finset.univ.fold IntOp.minsi 2147483647#32 (fun j : Fin 8 => if M j = g then BitVec.ofNat 32 ↑j else 8#32) = BitVec.ofNat 32 ↑p := by
  have d1 : ∀ p : Fin 8, IntOp.minsi (BitVec.ofNat 32 ↑p) 2147483647#32 = BitVec.ofNat 32 ↑p := by decide
  have d2 : ∀ p : Fin 8, IntOp.minsi (BitVec.ofNat 32 ↑p) 8#32 = BitVec.ofNat 32 ↑p := by decide
  have d3 : ∀ p j : Fin 8, p ≤ j → IntOp.minsi (BitVec.ofNat 32 ↑p) (BitVec.ofNat 32 ↑j) = BitVec.ofNat 32 ↑p := by decide
  have e : (fun j : Fin 8 => if M j = g then BitVec.ofNat 32 ↑j else 8#32) p = BitVec.ofNat 32 ↑p := if_pos hp
  refine (fold_at IntOp.minsi _ _ p ?_ fun j hj => ?_).trans e
  · rw [if_pos hp]; exact d1 p
  · rw [if_pos hp]
    show IntOp.minsi _ (if M j = g then BitVec.ofNat 32 ↑j else 8#32) = _
    split
    · next hj' => exact d3 p j (not_lt.mp fun hl => h j hl hj')
    · exact d2 p

/-- One at the place `p`. -/
def ind (p e : Fin 8) : EReal := if e = p then 1 else 0

theorem sitofp_ind (p e : Fin 8) :
    (FloatOps.sitofp .f32 (BitVec.setWidth 32 (IntOp.cmpi .eq (BitVec.ofNat 32 ↑e) (BitVec.ofNat 32 ↑p))) : Ideal .f32) = ind p e := by
  have d : ∀ p e : Fin 8, (BitVec.setWidth 32 (IntOp.cmpi .eq (BitVec.ofNat 32 (e : ℕ)) (BitVec.ofNat 32 (p : ℕ)))).toInt = if e = p then 1 else 0 := by decide
  show ((((BitVec.setWidth 32 (IntOp.cmpi .eq (BitVec.ofNat 32 (e : ℕ)) (BitVec.ofNat 32 (p : ℕ)))).toInt : ℤ) : ℝ) : EReal) = _
  rw [d, ind]
  split <;> simp

theorem uitofp_ind (p e : Fin 8) :
    (FloatOps.uitofp .f32 (IntOp.cmpi .eq (BitVec.ofNat 32 ↑p) (BitVec.ofNat 32 ↑e)) : Ideal .f32) = ind p e := by
  have d : ∀ p e : Fin 8, (IntOp.cmpi .eq (BitVec.ofNat 32 (p : ℕ)) (BitVec.ofNat 32 (e : ℕ))).toNat = if e = p then 1 else 0 := by decide
  show ((((IntOp.cmpi .eq (BitVec.ofNat 32 (p : ℕ)) (BitVec.ofNat 32 (e : ℕ))).toNat : ℕ) : ℝ) : EReal) = _
  rw [d, ind]
  split <;> simp

/-- The sign-extended and the plain reading of one bit. -/
theorem sitofp_bit (b : BitVec 1) : (FloatOps.sitofp .f32 (BitVec.setWidth 32 b) : Ideal .f32) = FloatOps.uitofp .f32 b := by
  have d : ∀ b : BitVec 1, (BitVec.setWidth 32 b).toInt = (b.toNat : ℤ) := by decide
  show ((((BitVec.setWidth 32 b).toInt : ℤ) : ℝ) : EReal) = (((b.toNat : ℕ) : ℝ) : EReal)
  rw [d]
  simp

theorem ind_sum (p : Fin 8) : ∑ e, ind p e = 1 := by
  simp [ind]

theorem select_ind (p e : Fin 8) (a b : EReal) :
    Scalar.select (IntOp.cmpi .eq (BitVec.ofNat 32 (e : ℕ)) (BitVec.ofNat 32 (p : ℕ))) a b = if e = p then a else b := by
  have d : ∀ p e : Fin 8, IntOp.cmpi .eq (BitVec.ofNat 32 (e : ℕ)) (BitVec.ofNat 32 (p : ℕ)) = if e = p then 1#1 else 0#1 := by decide
  rw [d]
  split <;> rfl

theorem bot_bits : Ideal.ofBits .f32 4286578688#32 = (⊥ : EReal) := by
  simp [Ideal.ofBits, Ideal.ieee]

/-- The gate of choice `k`: the entry there, and zero elsewhere. -/
def gate (L : Fin 8 → EReal) (k e : Fin 8) : EReal := L (top L k) * ind (top L k) e

theorem le_top0 (L : Fin 8 → EReal) (j : Fin 8) : L j ≤ L (top L 0) := by
  by_cases h : j = top L 0
  · rw [h]
  · rcases top_after L 0 j (fun l hl => by rw [Fin.le_zero_iff.mp hl]; exact h) with h | h
    · exact h.le
    · exact h.1.le

theorem lt_top0 (L : Fin 8 → EReal) (j : Fin 8) (hj : j < top L 0) : L j ≠ L (top L 0) := by
  rcases top_after L 0 j (fun l hl => by rw [Fin.le_zero_iff.mp hl]; exact hj.ne) with h | h
  · exact h.ne
  · exact absurd h.2 (not_lt.mpr hj.le)

/-- The row with its largest entry taken out. -/
def rest (L : Fin 8 → EReal) (j : Fin 8) : EReal := if j = top L 0 then ⊥ else L j

theorem rest_top1 (L : Fin 8 → EReal) : rest L (top L 1) = L (top L 1) := if_neg (top_ne L).symm

theorem top1_after (L : Fin 8 → EReal) (j : Fin 8) (h0 : j ≠ top L 0) (h1 : j ≠ top L 1) :
    L j < L (top L 1) ∨ (L j = L (top L 1) ∧ top L 1 < j) :=
  top_after L 1 j fun l hl => by
    have : l = 0 ∨ l = 1 := by revert l; decide
    rcases this with rfl | rfl <;> assumption

theorem rest_le (L : Fin 8 → EReal) (j : Fin 8) : rest L j ≤ rest L (top L 1) := by
  rw [rest_top1]
  unfold rest
  split
  · exact bot_le
  · next h0 =>
    by_cases h1 : j = top L 1
    · rw [h1]
    · rcases top1_after L j h0 h1 with h | h
      · exact h.le
      · exact h.1.le

theorem rest_ne (L : Fin 8 → EReal) (hL : ∀ j, L j ≠ ⊥) (j : Fin 8) (hj : j < top L 1) : rest L j ≠ rest L (top L 1) := by
  rw [rest_top1]
  unfold rest
  split
  · exact (hL _).symm
  · next h0 =>
    rcases top1_after L j h0 hj.ne with h | h
    · exact h.ne
    · exact absurd h.2 (not_lt.mpr hj.le)

/-- One where the gate is not zero. -/
def disp (L : Fin 8 → EReal) (k e : Fin 8) : EReal := FloatOps.uitofp (F := Ideal) .f32 (BitVec.ofBool (decide (gate L k e ≠ 0)))

end Cert.Route
-- ==== Proof.RRoute.lean ====
module

public import proofs.«01_k».proof.Proof.RouteMath
public import proofs.«01_k».proof.Proof.Gen.ReferenceIdeal.Run

/-! The reference's routing through the two largest entries of a row. -/

@[expose] public section

set_option maxRecDepth 16384

noncomputable section

namespace Cert.RRoute

open Idealize.ShloMosaic Idealize.ShloMosaic.TcCoe Cert.ReferenceIdeal Cert.ReferenceIdeal.Value Cert.Route

/-- The order of the sort is the order of the extended reals. -/
theorem gt_eq (a b : Ideal .f32) : ((FloatOps.cmpfTotal .gt a b : BitVec 1) == 1#1) = decide ((b : EReal) < a) := by
  show (BitVec.ofBool (decide ((b : EReal) < a)) == 1#1) = _
  by_cases h : (b : EReal) < a <;> simp [h]

theorem along_eq (r : Fin 1024) (a b : Fin 8) : Shape.Idx.along (s := S1024x8) (ix2 r a) 1 b = ix2 r b := by
  funext d
  fin_cases d
  · exact Function.update_of_ne (by decide) _ _
  · exact Function.update_self _ _ _

theorem sorted_eq (x : FVec Ideal S1024x8 .f32) (r : Fin 1024) (k : Fin 8) (i : S1024x8.Idx) (hi : i = ix2 r k) :
    Shape.Idx.along (s := S1024x8) i 1 (sortedFrom (fun a b : Fin 8 => (FloatOps.cmpfTotal .gt (x (Shape.Idx.along (s := S1024x8) i 1 a)) (x (Shape.Idx.along (s := S1024x8) i 1 b)) : BitVec 1) == 1#1) (i 1))
      = ix2 r (top (fun e => x (ix2 r e)) k) := by
  subst hi
  have hB : (fun a b : Fin 8 => ((FloatOps.cmpfTotal .gt (x (ix2 r a)) (x (ix2 r b)) : BitVec 1) == 1#1)) = fun a b => decide ((x (ix2 r b) : EReal) < x (ix2 r a)) := by
    funext a b
    exact gt_eq _ _
  simp only [along_eq]
  unfold top
  rw [← hB]
  exact along_eq _ _ _

/-- The values the top-k keeps. -/
theorem topK_val (x : FVec Ideal S1024x8 .f32) (r : Fin 1024) (k : Fin 2) :
    (Host.topK S1024x2 1 (FloatOps.cmpfTotal .gt) x Gen.sliceFits_S1024x8_S1024x2).1 (ix2 r k)
      = x (ix2 r (top (fun e => x (ix2 r e)) (Fin.castLE (by decide) k))) := by
  refine congrArg x (sorted_eq x r (Fin.castLE (by decide) k) _ ?_)
  funext d
  fin_cases d <;> exact Fin.ext (Nat.zero_add _)

/-- The places the top-k keeps. -/
theorem topK_idx (x : FVec Ideal S1024x8 .f32) (r : Fin 1024) (k : Fin 2) :
    (Host.topK S1024x2 1 (FloatOps.cmpfTotal .gt) x Gen.sliceFits_S1024x8_S1024x2).2 (ix2 r k)
      = BitVec.ofNat 32 ↑(top (fun e => x (ix2 r e)) (Fin.castLE (by decide) k)) := by
  refine Eq.trans (congrArg (fun i : S1024x8.Idx => BitVec.ofNat 32 (i 1).val) (sorted_eq x r (Fin.castLE (by decide) k) _ ?_)) rfl
  funext d
  fin_cases d <;> exact Fin.ext (Nat.zero_add _)

variable (V : Valuation τ sig (Elt Ideal))

/-- The logits of row `r`. -/
def lg (r : Fin 1024) (e : Fin 8) : EReal := res_main_v2 (F := Ideal) V (ix2 r e)

theorem v3_eq (r : Fin 1024) (k : Fin 2) (e : Fin 8) :
    res_main_v3 V (ix3 r k e) = ind (top (lg V r) (Fin.castLE (by decide) k)) e := by
  rw [← uitofp_ind]
  unfold lg
  rw [← topK_idx (res_main_v2 V) r k]
  pointwise [res_main_v3]

theorem v22_eq (r : Fin 1024) (k : Fin 2) (e : Fin 8) :
    res_main_v22 V (ix3 r e k) = gate (lg V r) (Fin.castLE (by decide) k) e := by
  have h := topK_val (res_main_v2 V) r k
  pointwise [res_main_v22]
  rw [h]
  simp only [v3_eq]
  rw [ind_sum, mul_one]
  rfl

end Cert.RRoute
-- ==== Proof.Expert.lean ====
module

public import Mathlib.Data.EReal.Operations
public import Mathlib.Algebra.BigOperators.Group.Finset.Basic
public import Mathlib.Data.Fintype.Basic
public import Mathlib.Data.Fin.Basic
public import Mathlib.Algebra.BigOperators.Fin

/-! One expert's four layers, over plain functions. -/

@[expose] public section

noncomputable section

namespace Cert.Expert

/-- An affine layer without activation. -/
def affine {m n : ℕ} (v : Fin m → EReal) (w : Fin n → Fin m → EReal) (b : Fin n → EReal) (y : Fin n) : EReal :=
  (∑ x, v x * w y x) + b y

/-- A layer with its activation. -/
def layer {m n : ℕ} (v : Fin m → EReal) (w : Fin n → Fin m → EReal) (b : Fin n → EReal) (y : Fin n) : EReal :=
  max ((∑ x, v x * w y x) + b y) 0

/-- The four layers. -/
def expert (inp : Fin 1024 → EReal) (w1 : Fin 500 → Fin 1024 → EReal) (b1 : Fin 500 → EReal) (w2 : Fin 500 → Fin 500 → EReal)
    (b2 : Fin 500 → EReal) (w3 : Fin 2000 → Fin 500 → EReal) (b3 : Fin 2000 → EReal) (w4 : Fin 64 → Fin 2000 → EReal)
    (b4 : Fin 64 → EReal) : Fin 64 → EReal :=
  affine (layer (layer (layer inp w1 b1) w2 b2) w3 b3) w4 b4

end Cert.Expert
-- ==== Proof.RExpert.lean ====
module

public import proofs.«01_k».proof.Proof.RRoute
public import proofs.«01_k».proof.Proof.Expert

/-! The reference's experts, as four plain layers. -/

@[expose] public section

set_option maxRecDepth 16384

noncomputable section

namespace Cert.RExpert

open Idealize.ShloMosaic Idealize.ShloMosaic.TcCoe Cert.ReferenceIdeal Cert.ReferenceIdeal.Gen Cert.ReferenceIdeal.Value Cert.Route Cert.Expert

variable (V : Valuation τ sig (Elt Ideal))

/-- What expert `e` makes of a row. -/
def out (V : Valuation τ sig (Elt Ideal)) (inp : Fin 1024 → EReal) (e : Fin 8) : Fin 64 → EReal :=
  expert inp
    (fun y x => V main_arg2 (ix3 e y x)) (fun y => V main_arg3 (ix2 e y))
    (fun y x => V main_arg4 (ix3 e y x)) (fun y => V main_arg5 (ix2 e y))
    (fun y x => V main_arg6 (ix3 e y x)) (fun y => V main_arg7 (ix2 e y))
    (fun y x => V main_arg8 (ix3 e y x)) (fun y => V main_arg9 (ix2 e y))

/-- The input array. -/
def input (V : Valuation τ sig (Elt Ideal)) : Fin 1024 → Fin 1024 → EReal := fun r x => V main_arg0 (ix2 r x)

/-- The rows sent to an expert, summed. -/
def sent (V : Valuation τ sig (Elt Ideal)) (k : Fin 2) (e : Fin 8) (x : Fin 1024) : EReal :=
  ∑ r, disp (RRoute.lg V r) (Fin.castLE (by decide) k) e * input V r x

/-- One choice's mixed output. -/
def mid (V : Valuation τ sig (Elt Ideal)) (k : Fin 2) (r : Fin 1024) (c : Fin 64) : EReal :=
  ∑ e, gate (RRoute.lg V r) (Fin.castLE (by decide) k) e * out V (sent V k e) e c

theorem v45_eq (e : Fin 8) (k : Fin 2) (c : Fin 64) : res_main_v45 V (ix3 e k c) = out V (sent V k e) e c := by
  pointwise [res_main_v45]
  simp only [RRoute.v22_eq]
  rfl

theorem v48_eq (k : Fin 2) (r : Fin 1024) (c : Fin 64) :
    res_main_v48 V (ix3 k r c) = mid V k r c := by
  unfold mid
  pointwise [res_main_v48]
  simp only [RRoute.v22_eq, v45_eq]
  refine Finset.sum_congr (M := EReal) rfl fun e _ => ?_
  exact mul_comm (G := EReal) _ _

theorem v49_eq (r : Fin 1024) (c : Fin 64) :
    Host.dotGeneral (F := Ideal) (φ₁ := .f32) (φ₂ := .f32) dot_S1024x8x2_S8x2x64_S1024x64_21_10_0_2_n_n none (res_main_v22 V) (res_main_v45 V) (ix2 r c)
      = mid V 0 r c + mid V 1 r c := by
  unfold mid
  pointwise
  simp only [RRoute.v22_eq, v45_eq]
  exact Fin.sum_univ_two _

end Cert.RExpert
-- ==== Proof.Tables.lean ====
module

public import proofs.«01_k».proof.KernelIdeal
public import proofs.«01_k».proof.ReferenceIdeal
public import Mathlib.Order.Interval.Finset.Nat
public import Mathlib.Algebra.BigOperators.Group.Finset.Basic
public import Mathlib.Data.Nat.Count
public import Mathlib.Data.Nat.Bitwise

/-! The constant tables of the two programs: the noise, the two samples and their indicators. -/

@[expose] public section

set_option maxRecDepth 16384

namespace Cert.Tables

/-- No value of `f` below `n` is marked in `acc` or repeats. -/
def freshB (f : ℕ → ℕ) : ℕ → ℕ → Bool
  | 0, _ => true
  | n + 1, acc => !acc.testBit (f n) && match acc ||| 1 <<< f n with
    | 0 => false
    | k + 1 => freshB f n (k + 1)

/-- What the test says. -/
theorem freshB_spec (f : ℕ → ℕ) : ∀ n acc, freshB f n acc = true →
    (∀ i < n, acc.testBit (f i) = false) ∧ ∀ i < n, ∀ j < i, f i ≠ f j
  | 0, _, _ => ⟨fun _ h => absurd h (Nat.not_lt_zero _), fun _ h => absurd h (Nat.not_lt_zero _)⟩
  | n + 1, acc, h => by
    unfold freshB at h
    rw [Bool.and_eq_true, Bool.not_eq_true'] at h
    obtain ⟨h1, h2⟩ := h
    have h3 : freshB f n (acc ||| 1 <<< f n) = true := by
      revert h2
      cases e : acc ||| 1 <<< f n with
      | zero => intro h2; exact absurd h2 (by simp)
      | succ k => exact fun h2 => h2
    obtain ⟨a, b⟩ := freshB_spec f n _ h3
    have a' : ∀ i < n, acc.testBit (f i) = false ∧ f i ≠ f n := fun i hi => by
      have := a i hi
      rw [Nat.testBit_or, Bool.or_eq_false_iff] at this
      refine ⟨this.1, fun e => ?_⟩
      have h4 := this.2
      rw [e] at h4
      simp [Nat.testBit_shiftLeft] at h4
    refine ⟨fun i hi => ?_, fun i hi j hj => ?_⟩
    · rcases Nat.lt_succ_iff_lt_or_eq.mp hi with hi | rfl
      · exact (a' i hi).1
      · exact h1
    · rcases Nat.lt_succ_iff_lt_or_eq.mp hi with hi | rfl
      · exact b i hi j hj
      · exact ((a' j hj).2).symm

/-- A sum over a sample without repetition is the sum over the marked positions. -/
theorem sum_table {M : Type} [AddCommMonoid M] (f : ℕ → ℕ) (p : ℕ → Prop) [DecidablePred p] (n N : ℕ)
    (hf : freshB f n 0 = true) (hp : ∀ i < n, f i < N ∧ p (f i)) (hc : Nat.count p N = n) (g : ℕ → M) :
    ∑ i ∈ Finset.range n, g (f i) = ∑ r ∈ Finset.range N, if p r then g r else 0 := by
  have hs := (freshB_spec f n 0 hf).2
  have hinj : Set.InjOn f (Finset.range n : Set ℕ) := by
    intro i hi j hj e
    rw [Finset.coe_range, Set.mem_Iio] at hi hj
    rcases Nat.lt_trichotomy i j with h | h | h
    · exact absurd e.symm (hs j hj i h)
    · exact h
    · exact absurd e (hs i hi j h)
  rw [← Finset.sum_filter, ← Finset.sum_image (f := g) hinj]
  refine Finset.sum_congr (Finset.eq_of_subset_of_card_le (fun r hr => ?_) ?_) fun _ _ => rfl
  · obtain ⟨i, hi, rfl⟩ := Finset.mem_image.mp hr
    have := hp i (Finset.mem_range.mp hi)
    exact Finset.mem_filter.mpr ⟨Finset.mem_range.mpr this.1, this.2⟩
  · rw [Finset.card_image_of_injOn hinj, Finset.card_range, ← Nat.count_eq_card_filter_range, hc]

/-- The two programs add the same noise. -/
theorem noise_eq (i : Fin 8192) : Cert.KernelIdeal.lit0 i = Cert.ReferenceIdeal.lit0 i := rfl

/-- Every noise entry is a finite number's pattern. -/
theorem noise_lt : ∀ q < 64, ∀ i < 128, (Cert.ReferenceIdeal.lit0t (128 * q + i)).toNat < 0x7F800000 := by
  decide +kernel

/-- The source sample has no repetition. -/
theorem source_fresh : freshB (fun i => (Cert.ReferenceIdeal.lit1t i).toNat) 920 0 = true := by decide +kernel
/-- The target sample has no repetition. -/
theorem target_fresh : freshB (fun i => (Cert.ReferenceIdeal.lit2t i).toNat) 920 0 = true := by decide +kernel
/-- Every source row is marked. -/
theorem source_marked : ∀ i < 920, (Cert.ReferenceIdeal.lit1t i).toNat < 1024
    ∧ Cert.KernelIdeal.lit1t (Cert.ReferenceIdeal.lit1t i).toNat = 0x3F800000#32 := by decide +kernel
/-- Every target row is marked. -/
theorem target_marked : ∀ i < 920, (Cert.ReferenceIdeal.lit2t i).toNat < 1024
    ∧ Cert.KernelIdeal.lit1t (1024 + (Cert.ReferenceIdeal.lit2t i).toNat) = 0x3F800000#32 := by decide +kernel
/-- There are no more marked source rows than the sample has. -/
theorem source_count : Nat.count (fun r => Cert.KernelIdeal.lit1t r = 0x3F800000#32) 1024 = 920 := by decide +kernel
/-- There are no more marked target rows than the sample has. -/
theorem target_count : Nat.count (fun r => Cert.KernelIdeal.lit1t (1024 + r) = 0x3F800000#32) 1024 = 920 := by decide +kernel
/-- A mark is one or zero, and the signed mark of a source row is the mark. -/
theorem marks_source : ∀ r < 1024, (Cert.KernelIdeal.lit1t r = 0x3F800000#32 ∨ Cert.KernelIdeal.lit1t r = 0#32)
    ∧ Cert.KernelIdeal.lit2t r = Cert.KernelIdeal.lit1t r := by decide +kernel
/-- A mark is one or zero, and the signed mark of a target row is its negative. -/
theorem marks_target : ∀ r < 1024,
    (Cert.KernelIdeal.lit1t (1024 + r) = 0x3F800000#32 ∧ Cert.KernelIdeal.lit2t (1024 + r) = 0xBF800000#32)
    ∨ (Cert.KernelIdeal.lit1t (1024 + r) = 0#32 ∧ Cert.KernelIdeal.lit2t (1024 + r) = 0x80000000#32) := by decide +kernel

end Cert.Tables
-- ==== Proof.Balance.lean ====
module

public import Idealize.ShloMosaic.Lib.Pointwise

/-! The balance loss over real entries: the column means may be taken in either order. -/

@[expose] public section

noncomputable section

namespace Cert.Balance

open Idealize.ShloMosaic

/-- A sum of reals, read among the extended reals. -/
theorem coe_sum {ι : Type} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

theorem bits_1024 : Ideal.ofBits .f32 1149239296#32 = ((1024 : ℝ) : EReal) := by
  simp [Ideal.ofBits, Ideal.ieee]; rw [← EReal.coe_mul]; norm_num
theorem bits_2 : Ideal.ofBits .f32 1073741824#32 = ((2 : ℝ) : EReal) := by
  simp [Ideal.ofBits, Ideal.ieee]; rw [← EReal.coe_mul]; norm_num
theorem bits_8192 : Ideal.ofBits .f32 1174405120#32 = ((8192 : ℝ) : EReal) := by
  simp [Ideal.ofBits, Ideal.ieee]; rw [← EReal.coe_mul]; norm_num
theorem bits_64 : Ideal.ofBits .f32 1115684864#32 = ((64 : ℝ) : EReal) := by
  simp [Ideal.ofBits, Ideal.ieee]; rw [← EReal.coe_mul]; norm_num
theorem bits_inv1024 : Ideal.ofBits .f32 981467136#32 = ((1 / 1024 : ℝ) : EReal) := by
  simp [Ideal.ofBits, Ideal.ieee]; rw [← EReal.coe_mul]; norm_num
theorem bits_half : Ideal.ofBits .f32 1056964608#32 = ((1 / 2 : ℝ) : EReal) := by
  simp [Ideal.ofBits, Ideal.ieee]; rw [← EReal.coe_mul]; norm_num
theorem bits_inv128 : Ideal.ofBits .f32 1006632960#32 = ((1 / 128 : ℝ) : EReal) := by
  simp [Ideal.ofBits, Ideal.ieee]; rw [← EReal.coe_mul]; norm_num

theorem balance (l p q : Fin 1024 → Fin 8 → ℝ) :
    (∑ e, (∑ r, (l r e : EReal)) * Ideal.ofBits .f32 981467136#32 * ∑ r, ((p r e : EReal) + (q r e : EReal)) * Ideal.ofBits .f32 1056964608#32)
        * Ideal.ofBits .f32 1006632960#32
      = Ideal.div (∑ r, ∑ e, Ideal.div (∑ r', (l r' e : EReal)) (Ideal.ofBits .f32 1149239296#32)
          * Ideal.div ((p r e : EReal) + (q r e : EReal)) (Ideal.ofBits .f32 1073741824#32)) (Ideal.ofBits .f32 1174405120#32)
        * Ideal.ofBits .f32 1115684864#32 := by
  rw [bits_1024, bits_2, bits_8192, bits_64, bits_inv1024, bits_half, bits_inv128, Ideal.div_coe (by norm_num)]
  simp only [Ideal.div_coe (show (1024 : ℝ) ≠ 0 by norm_num), Ideal.div_coe (show (2 : ℝ) ≠ 0 by norm_num), ← EReal.coe_add, ← EReal.coe_mul, ← coe_sum]
  rw [Finset.sum_comm]
  simp only [← Finset.mul_sum, ← Finset.sum_mul]
  congr 1
  simp only [Finset.sum_mul]
  refine Finset.sum_congr rfl fun e _ => ?_
  simp only [← Finset.sum_mul]
  ring

end Cert.Balance
-- ==== Proof.RealPart.lean ====
module

public import proofs.«01_k».proof.Proof.RExpert
public import proofs.«01_k».proof.Proof.Tables
public import proofs.«01_k».proof.Proof.Balance

/-! Real inputs make every intermediate value real. -/

@[expose] public section

set_option maxRecDepth 16384

noncomputable section

namespace Cert.RealPart

open Idealize.ShloMosaic Idealize.ShloMosaic.TcCoe Cert.ReferenceIdeal Cert.ReferenceIdeal.Gen Cert.ReferenceIdeal.Value Cert.Route Cert.Expert

/-- A real number among the extended reals. -/
def IsR (a : EReal) : Prop := ∃ r : ℝ, a = (r : EReal)

theorem IsR.add {a b : EReal} : IsR a → IsR b → IsR (a + b)
  | ⟨r, hr⟩, ⟨s, hs⟩ => ⟨r + s, by rw [hr, hs, EReal.coe_add]⟩
theorem IsR.mul {a b : EReal} : IsR a → IsR b → IsR (a * b)
  | ⟨r, hr⟩, ⟨s, hs⟩ => ⟨r * s, by rw [hr, hs, EReal.coe_mul]⟩
theorem IsR.zero : IsR 0 := ⟨0, rfl⟩
theorem IsR.one : IsR 1 := ⟨1, rfl⟩
theorem IsR.max {a b : EReal} (ha : IsR a) (hb : IsR b) : IsR (max a b) := by
  rcases max_choice a b with h | h <;> rw [h] <;> assumption
theorem IsR.sum {ι : Type} (s : Finset ι) (f : ι → EReal) (h : ∀ i, IsR (f i)) : IsR (∑ i ∈ s, f i) := by
  choose g hg using h
  exact ⟨∑ i ∈ s, g i, by rw [Balance.coe_sum]; exact Finset.sum_congr rfl fun i _ => hg i⟩

theorem layer_real {m n : ℕ} (v : Fin m → EReal) (w : Fin n → Fin m → EReal) (b : Fin n → EReal) (hv : ∀ i, IsR (v i)) (hw : ∀ i j, IsR (w i j))
    (hb : ∀ i, IsR (b i)) (y : Fin n) : IsR (layer v w b y) :=
  ((IsR.sum _ _ fun i => (hv i).mul (hw y i)).add (hb y)).max IsR.zero
theorem affine_real {m n : ℕ} (v : Fin m → EReal) (w : Fin n → Fin m → EReal) (b : Fin n → EReal) (hv : ∀ i, IsR (v i)) (hw : ∀ i j, IsR (w i j))
    (hb : ∀ i, IsR (b i)) (y : Fin n) : IsR (affine v w b y) :=
  (IsR.sum _ _ fun i => (hv i).mul (hw y i)).add (hb y)

theorem ind_real (p e : Fin 8) : IsR (ind p e) := by
  unfold ind
  split
  · exact IsR.one
  · exact IsR.zero
theorem gate_real (L : Fin 8 → EReal) (hL : ∀ e, IsR (L e)) (k e : Fin 8) : IsR (gate L k e) := (hL _).mul (ind_real _ _)
theorem disp_real (L : Fin 8 → EReal) (k e : Fin 8) : IsR (disp L k e) := ⟨_, rfl⟩

/-- Every noise entry is real. -/
theorem bits_real (b : BitVec 32) (h : b.toNat < 0x7F800000) : IsR (Ideal.ofBits .f32 b) := by
  have he : (b.extractLsb' 23 8).toNat ≠ 255 := by
    rw [BitVec.extractLsb'_toNat, Nat.shiftRight_eq_div_pow]
    omega
  show IsR (Ideal.ieee 8 23 b)
  unfold Ideal.ieee
  dsimp only
  rw [if_neg (by simpa using he)]
  split
  · exact ⟨_, rfl⟩
  · exact ⟨_, rfl⟩

theorem noise_real (i : Fin 8192) : IsR (Ideal.ofBits .f32 (lit0 i)) := by
  refine bits_real _ ?_
  have h := Tables.noise_lt (i.val / 128) (by have := i.isLt; omega) (i.val % 128) (Nat.mod_lt _ (by decide))
  rw [Nat.div_add_mod] at h
  exact h

variable (V : Valuation τ sig (Elt Ideal))

/-- Every input entry is real. -/
structure Reals : Prop where
  a0 : ∀ i j, IsR (V main_arg0 (ix2 i j))
  a1 : ∀ i j, IsR (V main_arg1 (ix2 i j))
  a2 : ∀ i j k, IsR (V main_arg2 (ix3 i j k))
  a3 : ∀ i j, IsR (V main_arg3 (ix2 i j))
  a4 : ∀ i j k, IsR (V main_arg4 (ix3 i j k))
  a5 : ∀ i j, IsR (V main_arg5 (ix2 i j))
  a6 : ∀ i j k, IsR (V main_arg6 (ix3 i j k))
  a7 : ∀ i j, IsR (V main_arg7 (ix2 i j))
  a8 : ∀ i j k, IsR (V main_arg8 (ix3 i j k))
  a9 : ∀ i j, IsR (V main_arg9 (ix2 i j))

/-- The noisy logits as a function of the two inputs. -/
def logits (x : Vec Ideal S1024x1024 .f32) (w : Vec Ideal S8x1024 .f32) (r : Fin 1024) (e : Fin 8) : EReal :=
  (∑ k : Fin 1024, x (ix2 r k) * w (ix2 e k)) + Ideal.ofBits .f32 (lit0 (S1024x8.rowMajor (ix2 r e)))

theorem v2_eq (r : Fin 1024) (e : Fin 8) : RRoute.lg V r e = logits (V main_arg0) (V main_arg1) r e := by
  unfold RRoute.lg
  pointwise [res_main_v2]
  rfl

variable {V} (h : Reals V)
include h

theorem lg_real (r : Fin 1024) (e : Fin 8) : IsR (RRoute.lg V r e) := by
  rw [v2_eq]
  unfold logits
  exact (IsR.sum _ _ fun k => (h.a0 r k).mul (h.a1 e k)).add (noise_real _)

theorem sent_real (k : Fin 2) (e : Fin 8) (x : Fin 1024) : IsR (RExpert.sent V k e x) :=
  IsR.sum _ _ fun r => (disp_real _ _ _).mul (h.a0 r x)

theorem out_real (inp : Fin 1024 → EReal) (hi : ∀ x, IsR (inp x)) (e : Fin 8) (d : Fin 64) : IsR (RExpert.out V inp e d) :=
  affine_real _ _ _ (layer_real _ _ _ (layer_real _ _ _ (layer_real _ _ _ hi (h.a2 e) (h.a3 e)) (h.a4 e) (h.a5 e)) (h.a6 e) (h.a7 e)) (h.a8 e) (h.a9 e) d

theorem mid_real (k : Fin 2) (r : Fin 1024) (d : Fin 64) : IsR (RExpert.mid V k r d) :=
  IsR.sum _ _ fun e => (gate_real _ (lg_real h r) _ e).mul (out_real h _ (sent_real h k e) e d)

end Cert.RealPart
-- ==== Proof.KRoute.lean ====
module

public import proofs.«01_k».proof.Proof.RouteMath
public import proofs.«01_k».proof.Proof.Gen.KernelIdeal.Skeleton

/-! The routing call's outputs through the two largest entries of a row. -/

@[expose] public section

set_option maxRecDepth 16384

noncomputable section

namespace Cert.KRoute

open Idealize.ShloMosaic Cert.KernelIdeal Cert.KernelIdeal.Gen Cert.Route

variable (x : Vec Ideal S1024x1024 .f32) (w n : Vec Ideal S1024x8 .f32)

/-- The logits of row `r`. -/
def lg (r : Fin 1024) (e : Fin 8) : EReal := k0_pay4 (F := Ideal) x w n (ix2 r e)

theorem lg_eq (r : Fin 1024) (e : Fin 8) : lg x w n r e = (∑ k, x (ix2 r k) * w (ix2 k e)) + n (ix2 r e) := by
  unfold lg
  pointwise [k0_pay4]

theorem pay5_eq (r : Fin 1024) : k0_pay5 (F := Ideal) x w n (ix2 r 0) = lg x w n r (top (lg x w n r) 0) := by
  have h := fold_max_at ⊥ (lg x w n r) _ bot_le (le_top0 (lg x w n r))
  rw [← h]
  unfold lg
  pointwise [k0_pay5]
  rw [bot_bits]

theorem pay6_eq (r : Fin 1024) : k0_pay6 (F := Ideal) x w n (ix2 r 0) = BitVec.ofNat 32 ↑(top (lg x w n r) 0) := by
  have h := fold_min_at (lg x w n r) _ _ rfl (lt_top0 (lg x w n r))
  rw [← h, ← pay5_eq]
  unfold lg
  pointwise [k0_pay6]

theorem pay7_eq (r : Fin 1024) (e : Fin 8) : k0_pay7 (F := Ideal) x w n (ix2 r e) = rest (lg x w n r) e := by
  unfold rest
  rw [← select_ind, ← pay6_eq, ← bot_bits]
  unfold lg
  pointwise [k0_pay7]

theorem pay8_eq (r : Fin 1024) : k0_pay8 (F := Ideal) x w n (ix2 r 0) = lg x w n r (top (lg x w n r) 1) := by
  have h := fold_max_at ⊥ (rest (lg x w n r)) _ bot_le (rest_le (lg x w n r))
  rw [← rest_top1 (lg x w n r), ← h]
  simp only [← pay7_eq]
  pointwise [k0_pay8]
  rw [bot_bits]

theorem pay9_eq (r : Fin 1024) (e : Fin 8) : k0_pay9 (F := Ideal) x w n (ix2 r e) = ind (top (lg x w n r) 0) e := by
  rw [← sitofp_ind, ← pay6_eq]
  pointwise [k0_pay9]

theorem pay10_eq (r : Fin 1024) (hL : ∀ j, lg x w n r j ≠ ⊥) (e : Fin 8) :
    k0_pay10 (F := Ideal) x w n (ix2 r e) = ind (top (lg x w n r) 1) e := by
  have h := fold_min_at (rest (lg x w n r)) _ _ rfl (rest_ne (lg x w n r) hL)
  rw [rest_top1, ← pay8_eq] at h
  simp only [← pay7_eq] at h
  rw [← sitofp_ind, ← h]
  pointwise [k0_pay10]

theorem pay11_eq (r : Fin 1024) (e : Fin 8) : k0_pay11 (F := Ideal) x w n (ix2 r e) = gate (lg x w n r) 0 e := by
  unfold gate
  rw [← pay9_eq, ← pay5_eq]
  pointwise [k0_pay11]

theorem pay12_eq (r : Fin 1024) (hL : ∀ j, lg x w n r j ≠ ⊥) (e : Fin 8) : k0_pay12 (F := Ideal) x w n (ix2 r e) = gate (lg x w n r) 1 e := by
  unfold gate
  rw [← pay10_eq _ _ _ _ hL, ← pay8_eq]
  pointwise [k0_pay12]

theorem pay13_eq (r : Fin 1024) (e : Fin 8) : k0_pay13 (F := Ideal) x w n (ix2 r e) = disp (lg x w n r) 0 e := by
  unfold disp
  rw [← pay11_eq, ← sitofp_bit]
  pointwise [k0_pay13]

theorem out6_eq (r : Fin 1024) (hL : ∀ j, lg x w n r j ≠ ⊥) (e : Fin 8) :
    k0_pay1 (k0_pay12 x w n) k0_pay14 (ix2 r e) = disp (lg x w n r) 1 e := by
  unfold disp
  rw [← pay12_eq _ _ _ _ hL, ← sitofp_bit]
  pointwise [k0_pay1, k0_pay14]

/-- The expert inputs: for each choice and expert, the sum of the rows sent there. -/
theorem out8_eq (hL : ∀ r j, lg x w n r j ≠ ⊥) (q : Fin 16) (m : Fin 1024) (k : Fin 2) (e : Fin 8) (h : q.val = 8 * k.val + e.val) :
    k0_pay3 x (k0_pay12 x w n) (k0_pay13 x w n) k0_pay14 (ix2 q m) = ∑ r, disp (lg x w n r) (Fin.castLE (by decide) k) e * x (ix2 r m) := by
  have h2 : ∀ r : Fin 1024, (if h : q.val < 8 then k0_pay13 (F := Ideal) x w n (ix2 r ⟨q.val, h⟩) else k0_pay1 (k0_pay12 x w n) k0_pay14 (ix2 r ⟨q.val - 8, by omega⟩))
      = disp (lg x w n r) (Fin.castLE (by decide) k) e := fun r => by
    have hk : k = 0 ∨ k = 1 := (by decide : ∀ k : Fin 2, k = 0 ∨ k = 1) k
    have he := e.isLt
    rcases hk with rfl | rfl
    · rw [dif_pos (by rw [h]; simpa using he), show (⟨q.val, _⟩ : Fin 8) = e from Fin.ext (by simpa using h), pay13_eq]; rfl
    · rw [dif_neg (by rw [h]; simp), show (⟨q.val - 8, _⟩ : Fin 8) = e from Fin.ext (by show q.val - 8 = e.val; rw [h]; simp), out6_eq _ _ _ _ (hL r)]; rfl
  refine Eq.trans ?_ (Finset.sum_congr rfl fun r _ => congrArg (· * x (ix2 r m)) (h2 r))
  pointwise [k0_pay3]

end Cert.KRoute
-- ==== Proof.KHost.lean ====
module

public import proofs.«01_k».proof.Proof.Gen.KernelIdeal.Regions
public import Idealize.ShloMosaic.Lib.StableHlo.ReadAt
public import Idealize.ShloMosaic.Lib.Pointwise

/-! The host operations between the calls, read at an index. -/

@[expose] public section

set_option maxRecDepth 16384

noncomputable section

namespace Cert.KHost

open Idealize.ShloMosaic Idealize.ShloMosaic.TcCoe Idealize.ShloMosaic.StableHlo Cert.KernelIdeal Cert.KernelIdeal.Gen

variable (V : Valuation τ sig (Elt Ideal))

theorem v3 (k : Fin 1024) (e : Fin 8) : after hostOps0 V main_call0_v3 (ix2 k e) = V main_arg1 (ix2 e k) := by
  unfold hostOps0
  after_reads_at
theorem cst (r : Fin 1024) (e : Fin 8) : after hostOps0 V main_call0_cst (ix2 r e) = Ideal.ofBits .f32 (lit0 (S1024x8.rowMajor (ix2 r e))) := by
  unfold hostOps0
  after_reads_at
theorem v0 (i : Fin 2048) : after hostOps0 V main_call0_v0 (ix2 i 0) = Ideal.ofBits .f32 (lit1 i) := by
  unfold hostOps0
  after_reads_at
  exact congrArg (fun i => Ideal.ofBits .f32 (lit1 i)) (Fin.ext (Shape.rowMajor_val_one _))
theorem v1 (i : Fin 2048) : after hostOps0 V main_call0_v1 (ix2 i 0) = Ideal.ofBits .f32 (lit2 i) := by
  unfold hostOps0
  after_reads_at
  exact congrArg (fun i => Ideal.ofBits .f32 (lit2 i)) (Fin.ext (Shape.rowMajor_val_one _))
theorem v2 (i : Fin 2048) : after hostOps0 V main_call0_v2 (ix2 0 i) = Ideal.ofBits .f32 (lit2 i) := by
  unfold hostOps0
  after_reads_at
  exact congrArg (fun i => Ideal.ofBits .f32 (lit2 i)) (Fin.ext (Shape.rowMajor_val_one _))
theorem v9 (e : Fin 8) (k : Fin 2) (d : Fin 1024) (h : 8 * k.val + e.val < 16) : after hostOps1 V main_call0_v9 (ix3 e k d) = V main_call0_v4_5 (ix2 ⟨8 * k.val + e.val, h⟩ d) := by
  have h : after hostOps1 V main_call0_v9 = concatenate S8x2x1024 1 [⟨S8x1x1024, broadcastInDim S8x1x1024 ![0, 2] bcast_S8x1024_S8x1x1024_0_2 (extractStridedSlice S8x1024 ![0, 0] (V main_call0_v4_5) slices_S16x1024_S8x1024_0_0)⟩, ⟨S8x1x1024, broadcastInDim S8x1x1024 ![0, 2] bcast_S8x1024_S8x1x1024_0_2 (extractStridedSlice S8x1024 ![8, 0] (V main_call0_v4_5) slices_S16x1024_S8x1024_8_0)⟩] concatenates_S8x1x1024_S8x1x1024_S8x2x1024_d1 := by
    simp only [hostOps1, TRef.binary, TRef.nullary, TRef.unary, TRef.toBuf, TRef.ofBuf, cast_eq]
    after_results_simp
    all_goals rfl
  rw [h]
  pointwise
  have hk : k = 0 ∨ k = 1 := (by decide : ∀ k : Fin 2, k = 0 ∨ k = 1) k
  rcases hk with rfl | rfl
  · exact congrArg (fun i => V main_call0_v4_5 (ix2 i d)) (Fin.ext (by simp))
  · exact congrArg (fun i => V main_call0_v4_5 (ix2 i d)) (Fin.ext (by simp))
theorem v10 (e : Fin 8) (d : Fin 500) : after hostOps1 V main_call0_v10 (ix3 e 0 d) = V main_arg3 (ix2 e d) := by
  unfold hostOps1
  after_reads_at
theorem v11 (e : Fin 8) (d : Fin 500) : after hostOps1 V main_call0_v11 (ix3 e 0 d) = V main_arg5 (ix2 e d) := by
  unfold hostOps1
  after_reads_at
theorem v12 (e : Fin 8) (p : Fin 2) (a : Fin 1000) (b : Fin 500) (h : 1000 * p.val + a.val < 2000) :
    after hostOps1 V main_call0_v12 (ix4 e p a b) = V main_arg6 (ix3 e ⟨1000 * p.val + a.val, h⟩ b) := by
  unfold hostOps1
  after_reads_at
  exact congrArg (fun i => V main_arg6 (ix3 e i b)) (Fin.ext (by show p.val * 1000 + a.val = 1000 * p.val + a.val; omega))
theorem v13 (e : Fin 8) (p : Fin 2) (a : Fin 1000) (h : 1000 * p.val + a.val < 2000) :
    after hostOps1 V main_call0_v13 (ix4 e p 0 a) = V main_arg7 (ix2 e ⟨1000 * p.val + a.val, h⟩) := by
  unfold hostOps1
  after_reads_at
  exact congrArg (fun i => V main_arg7 (ix2 e i)) (Fin.ext (by show p.val * 1000 + a.val = 1000 * p.val + a.val; omega))
theorem v14 (e : Fin 8) (a : Fin 64) : after hostOps1 V main_call0_v14 (ix3 e 0 a) = V main_arg9 (ix2 e a) := by
  unfold hostOps1
  after_reads_at
theorem v17 (e : Fin 8) (a : Fin 64) : after hostOps2 V main_call0_v17 (ix2 e a) = V main_call0_v15 (ix3 e 0 a) := by
  unfold hostOps2
  after_reads_at
theorem v19 (e : Fin 8) (a : Fin 64) : after hostOps2 V main_call0_v19 (ix2 e a) = V main_call0_v15 (ix3 e 1 a) := by
  unfold hostOps2
  after_reads_at
theorem out1 (r : Fin 1024) (e : Fin 8) (k : Fin 2) : after hostOps3 V main_v0_1 (ix3 r e k) = if k = 0 then V main_call0_v4_2 (ix2 r e) else V main_call0_v4_3 (ix2 r e) := by
  have h : after hostOps3 V main_v0_1 = concatenate S1024x8x2 2 [⟨S1024x8x1, broadcastInDim S1024x8x1 ![0, 1] bcast_S1024x8_S1024x8x1_0_1 (V main_call0_v4_2)⟩, ⟨S1024x8x1, broadcastInDim S1024x8x1 ![0, 1] bcast_S1024x8_S1024x8x1_0_1 (V main_call0_v4_3)⟩] concatenates_S1024x8x1_S1024x8x1_S1024x8x2_d2 := by
    simp only [hostOps3, TRef.binary, TRef.nullary, TRef.unary, TRef.toBuf, TRef.ofBuf, cast_eq]
    after_results_simp
    all_goals rfl
  rw [h]
  pointwise
  have hk : k = 0 ∨ k = 1 := (by decide : ∀ k : Fin 2, k = 0 ∨ k = 1) k
  rcases hk with rfl | rfl <;> rfl
theorem out2 : after hostOps3 V main_v0_2 ix0 = V main_call0_v4_4 (ix2 0 0) := by
  unfold hostOps3
  after_reads_at
theorem out3 : after hostOps3 V main_v0_3 ix0 = V main_call0_v20_1 (ix2 0 0) := by
  unfold hostOps3
  after_reads_at

end Cert.KHost
-- ==== Proof.Arr1.lean ====
module

public import proofs.«01_k».proof.Proof.KernelIdealRegion1
public import Idealize.ShloMosaic.Lib.Pipeline.ValueKit
public import Idealize.ShloMosaic.Lib.Pointwise

/-! The second call's output as an array. -/

@[expose] public section

set_option maxRecDepth 16384

noncomputable section

namespace Cert.KernelIdeal.Region1

open Cert.KernelIdeal Cert.KernelIdeal.Gen Cert.Reads
open Idealize.ShloMosaic Idealize.ShloMosaic.TcCoe Idealize.ShloMosaic.Tactic
open Idealize.ShloMosaic.Pipeline (Dat Cfg Window)

variable {F : FTy → Type} [FloatOps F]
variable (V : (c : Dev nD) → (b : Ref sig .tc) → Buf (Elt F) ((c : Thread nD τ).loc b))

/-- The point where expert `e`'s output is written. -/
def pt (e : Fin 8) : Fin cfg1.N := ⟨2 * e.val + 1, by have := e.isLt; show _ < 16; omega⟩

/-- Input block 0 at expert `e`. -/
theorem iblk_0 (c : Dev nD) (t : Fin cfg1.N) (e : Fin 8) (h : t.val / 2 = e.val) (a : Fin 2) (b : Fin 1024) :
    (iblk V c 0 t : Vec F S1x2x1024 .f32) (ix3 0 a b) = V c main_call0_v9 (ix3 e a b) := by
  have e0 : ∀ t, win1_0.index t = ![t.val / 2, 0, 0] := by decide +kernel
  blk_ext [iblk, e0 t, h]

/-- Input block 1 at expert `e`. -/
theorem iblk_1 (c : Dev nD) (t : Fin cfg1.N) (e : Fin 8) (h : t.val / 2 = e.val) (a : Fin 500) (b : Fin 1024) :
    (iblk V c 1 t : Vec F S1x500x1024 .f32) (ix3 0 a b) = V c main_arg2 (ix3 e a b) := by
  have e0 : ∀ t, win1_1.index t = ![t.val / 2, 0, 0] := by decide +kernel
  blk_ext [iblk, e0 t, h]

/-- Input block 2 at expert `e`. -/
theorem iblk_2 (c : Dev nD) (t : Fin cfg1.N) (e : Fin 8) (h : t.val / 2 = e.val) (a : Fin 1) (b : Fin 500) :
    (iblk V c 2 t : Vec F S1x1x500 .f32) (ix3 0 a b) = V c main_call0_v10 (ix3 e a b) := by
  have e0 : ∀ t, win1_2.index t = ![t.val / 2, 0, 0] := by decide +kernel
  blk_ext [iblk, e0 t, h]

/-- Input block 3 at expert `e`. -/
theorem iblk_3 (c : Dev nD) (t : Fin cfg1.N) (e : Fin 8) (h : t.val / 2 = e.val) (a : Fin 500) (b : Fin 500) :
    (iblk V c 3 t : Vec F S1x500x500 .f32) (ix3 0 a b) = V c main_arg4 (ix3 e a b) := by
  have e0 : ∀ t, win1_3.index t = ![t.val / 2, 0, 0] := by decide +kernel
  blk_ext [iblk, e0 t, h]

/-- Input block 4 at expert `e`. -/
theorem iblk_4 (c : Dev nD) (t : Fin cfg1.N) (e : Fin 8) (h : t.val / 2 = e.val) (a : Fin 1) (b : Fin 500) :
    (iblk V c 4 t : Vec F S1x1x500 .f32) (ix3 0 a b) = V c main_call0_v11 (ix3 e a b) := by
  have e0 : ∀ t, win1_4.index t = ![t.val / 2, 0, 0] := by decide +kernel
  blk_ext [iblk, e0 t, h]

/-- Input block 5 at expert `e` and half `p`. -/
theorem iblk_5 (c : Dev nD) (t : Fin cfg1.N) (e : Fin 8) (h : t.val / 2 = e.val) (p : Fin 2) (hp : t.val % 2 = p.val) (a : Fin 1000) (b : Fin 500) :
    (iblk V c 5 t : Vec F S1x1x1000x500 .f32) (ix4 0 0 a b) = V c main_call0_v12 (ix4 e p a b) := by
  have e0 : ∀ t, win1_5.index t = ![t.val / 2, t.val % 2, 0, 0] := by decide +kernel
  blk_ext [iblk, e0 t, h, hp]

/-- Input block 6 at expert `e` and half `p`. -/
theorem iblk_6 (c : Dev nD) (t : Fin cfg1.N) (e : Fin 8) (h : t.val / 2 = e.val) (p : Fin 2) (hp : t.val % 2 = p.val) (a : Fin 1) (b : Fin 1000) :
    (iblk V c 6 t : Vec F S1x1x1x1000 .f32) (ix4 0 0 a b) = V c main_call0_v13 (ix4 e p a b) := by
  have e0 : ∀ t, win1_6.index t = ![t.val / 2, t.val % 2, 0, 0] := by decide +kernel
  blk_ext [iblk, e0 t, h, hp]

/-- Input block 7 at expert `e`. -/
theorem iblk_7 (c : Dev nD) (t : Fin cfg1.N) (e : Fin 8) (h : t.val / 2 = e.val) (a : Fin 64) (b : Fin 2000) :
    (iblk V c 7 t : Vec F S1x64x2000 .f32) (ix3 0 a b) = V c main_arg8 (ix3 e a b) := by
  have e0 : ∀ t, win1_7.index t = ![t.val / 2, 0, 0] := by decide +kernel
  blk_ext [iblk, e0 t, h]

/-- Input block 8 at expert `e`. -/
theorem iblk_8 (c : Dev nD) (t : Fin cfg1.N) (e : Fin 8) (h : t.val / 2 = e.val) (a : Fin 1) (b : Fin 64) :
    (iblk V c 8 t : Vec F S1x1x64 .f32) (ix3 0 a b) = V c main_call0_v14 (ix3 e a b) := by
  have e0 : ∀ t, win1_8.index t = ![t.val / 2, 0, 0] := by decide +kernel
  blk_ext [iblk, e0 t, h]

/-- The output after the run, at an element. -/
theorem arr_9 (c : Dev nD) : (dat V c).arrAt 9 cfg1.N = fun i : S8x2x64.Idx => outAt V c (pt (i 0)) (ix3 0 (i 1) (i 2)) := by
  refine (dat V c).arrAt_eq_of_covers 9 _ (by decide +kernel) fun t hf y => ?_
  have e0 : ∀ t, win1_9.index t = ![t.val / 2, 0, 0] := by decide +kernel
  rw [after_9]
  have hodd : t.val % 2 = 1 := by
    rcases Nat.mod_two_eq_zero_or_one t.val with h | h
    · rw [noflush_even t h] at hf; exact absurd hf (by decide)
    · exact h
  have h0 : ((win1_9.blk t).view.emb y 0).val = t.val / 2 := by
    blk_simp [e0 t]
  have hy : y = ix3 (0 : Fin 1) ((win1_9.blk t).view.emb y 1) ((win1_9.blk t).view.emb y 2) := by blk_ext [e0 t]
  have ht : t = pt ((win1_9.blk t).view.emb y 0) := by
    apply Fin.ext
    show t.val = 2 * ((win1_9.blk t).view.emb y 0).val + 1
    rw [h0]
    omega
  blk_simp [e0 t]
  rw [← ht]
  exact congrArg _ hy

end Cert.KernelIdeal.Region1
-- ==== Proof.KExpert.lean ====
module

public import proofs.«01_k».proof.Proof.Arr1
public import proofs.«01_k».proof.Proof.KHost
public import proofs.«01_k».proof.Proof.Expert

/-! The experts' call: each output row is the four layers of its expert. -/

@[expose] public section

set_option maxRecDepth 16384

noncomputable section

namespace Cert.KernelIdeal.Region1

open Idealize.ShloMosaic Idealize.ShloMosaic.TcCoe Idealize.ShloMosaic.StableHlo Cert.KernelIdeal Cert.KernelIdeal.Gen Cert.Expert

/-- The two stored halves, read at an index. -/
theorem halves_at (p q : Vec Ideal S2x1000 .f32) (k : Fin 2) (x : Fin 2000) (P : Fin 2) (a : Fin 1000) (hx : x.val = 1000 * P.val + a.val) :
    View.canon (Val := Elt Ideal) [⟨rHi, p⟩, ⟨rLo, q⟩] (ix2 k x) = if P = 0 then q (ix2 k a) else p (ix2 k a) := by
  have ha := a.isLt
  have hP : P = 0 ∨ P = 1 := (by decide : ∀ k : Fin 2, k = 0 ∨ k = 1) P
  rcases hP with rfl | rfl
  · have hn : (ix2 k x : S2x2000.Idx) ∉ rHi.set := by
      intro h
      have h1 : 1000 ≤ x.val := (Rect.mem_set_unit.mp h 1).1
      have : x.val = a.val := by simpa using hx
      omega
    rw [View.canon_cons_of_not_mem (⟨rHi, p⟩ : View.Piece (Elt Ideal) S2x2000 .f32) _ hn, if_pos rfl]
    have e : (ix2 k x : S2x2000.Idx) = rLo.emb (ix2 k a) := by
      funext d
      fin_cases d
      · exact Fin.ext (by show k.val = 0 + 1 * k.val; omega)
      · exact Fin.ext (by show x.val = 0 + 1 * a.val; have : x.val = a.val := by simpa using hx
                          omega)
    rw [e]
    exact View.canon_cons_emb rLo q [] (ix2 k a)
  · have e : (ix2 k x : S2x2000.Idx) = rHi.emb (ix2 k a) := by
      funext d
      fin_cases d
      · exact Fin.ext (by show k.val = 0 + 1 * k.val; omega)
      · exact Fin.ext (by show x.val = 1000 + 1 * a.val; have : x.val = 1000 + a.val := by simpa using hx
                          omega)
    rw [if_neg (by decide), e]
    exact View.canon_cons_emb rHi p _ (ix2 k a)

variable (m : (c : Dev nD) → Valuation τ sig (Elt Ideal))

/-- The call's entry contents. -/
abbrev ent (c : Dev nD) (b : Ref sig .tc) : Buf (Elt Ideal) ((c : Thread nD τ).loc b) := after hostOps1 (m c) b

variable (c : Dev nD)

/-- The second layer's activations of choice `k`. -/
theorem h2_eq (t : Fin cfg1.N) (e : Fin 8) (h : t.val / 2 = e.val) (k : Fin 2) (j : Fin 500) (hk : 8 * k.val + e.val < 16)
    (h2 : after hostOps1 (m c) main_arg2 = m c main_arg2) (h4 : after hostOps1 (m c) main_arg4 = m c main_arg4) :
    h2At (ent m) c t (ix2 k j) = layer (layer (fun x => m c main_call0_v4_5 (ix2 ⟨8 * k.val + e.val, hk⟩ x))
      (fun y x => m c main_arg2 (ix3 e y x)) (fun y => m c main_arg3 (ix2 e y)))
      (fun y x => m c main_arg4 (ix3 e y x)) (fun y => m c main_arg5 (ix2 e y)) j := by
  have h10 : ∀ (z : Fin 1) d, after hostOps1 (m c) main_call0_v10 (ix3 e z d) = m c main_arg3 (ix2 e d) := fun z d => by
    rw [Subsingleton.elim z 0]; exact KHost.v10 _ e d
  have h11 : ∀ (z : Fin 1) d, after hostOps1 (m c) main_call0_v11 (ix3 e z d) = m c main_arg5 (ix2 e d) := fun z d => by
    rw [Subsingleton.elim z 0]; exact KHost.v11 _ e d
  unfold h2At layer
  pointwise [k1_pay1]
  simp only [iblk_0 (ent m) c t e h, iblk_1 (ent m) c t e h, iblk_2 (ent m) c t e h, iblk_3 (ent m) c t e h, iblk_4 (ent m) c t e h, ent,
    KHost.v9 _ _ _ _ hk, h10, h11, h2, h4]

/-- The third layer's activations. -/
theorem h3_eq (t : Fin cfg1.N) (e : Fin 8) (h : t.val / 2 = e.val) (p : Fin 2) (hp : t.val % 2 = p.val) (v : Vec Ideal S2x500 .f32) (k : Fin 2) (a : Fin 1000)
    (x : Fin 2000) (hx : x.val = 1000 * p.val + a.val) :
    k1_pay2 (F := Ideal) v (iblk (ent m) c 5 t) (iblk (ent m) c 6 t) (ix2 k a)
      = layer (fun y => v (ix2 k y)) (fun y x => m c main_arg6 (ix3 e y x)) (fun y => m c main_arg7 (ix2 e y)) x := by
  have hl : 1000 * p.val + a.val < 2000 := by rw [← hx]; exact x.isLt
  obtain rfl : x = ⟨1000 * p.val + a.val, hl⟩ := Fin.ext hx
  have h13 : ∀ (z : Fin 1), after hostOps1 (m c) main_call0_v13 (ix4 e p z a) = m c main_arg7 (ix2 e ⟨1000 * p.val + a.val, hl⟩) := fun z => by
    rw [Subsingleton.elim z 0]; exact KHost.v13 _ e p a hl
  unfold layer
  pointwise [k1_pay2]
  simp only [iblk_5 (ent m) c t e h p hp, iblk_6 (ent m) c t e h p hp, ent, KHost.v12 _ _ _ _ _ hl, h13]

theorem pay3_at (v : Vec Ideal S2x500 .f32) (a : Vec Ideal S1x1x1000x500 .f32) (b : Vec Ideal S1x1x1x1000 .f32) (k : Fin 2) (j : Fin 1000) :
    k1_pay3 (F := Ideal) v a b (ix2 k j) = k1_pay2 (F := Ideal) v a b (ix2 k j) := by
  pointwise [k1_pay2, k1_pay3]

theorem pay4_at (v : Vec Ideal S2x500 .f32) (a : Vec Ideal S1x1x1000x500 .f32) (b : Vec Ideal S1x1x1x1000 .f32) (k : Fin 2) (j : Fin 1000) :
    k1_pay4 (F := Ideal) v a b (ix2 k j) = k1_pay2 (F := Ideal) v a b (ix2 k j) := by
  pointwise [k1_pay2, k1_pay4]

/-- The whole third layer, both halves. -/
theorem h3_whole (t : Fin cfg1.N) (e : Fin 8) (h : t.val = 2 * e.val + 1) (v : Vec Ideal S2x500 .f32) (k : Fin 2) (x : Fin 2000) :
    (View.canon (Val := Elt Ideal) [⟨rHi, k1_pay4 (F := Ideal) v (iblk (ent m) c 5 t) (iblk (ent m) c 6 t)⟩,
      ⟨rLo, k1_pay3 (F := Ideal) v (iblk (ent m) c 5 (prev t)) (iblk (ent m) c 6 (prev t))⟩] : Vec Ideal S2x2000 .f32) (ix2 k x)
      = layer (fun y => v (ix2 k y)) (fun y x => m c main_arg6 (ix3 e y x)) (fun y => m c main_arg7 (ix2 e y)) x := by
  have hx := x.isLt
  by_cases hl : x.val < 1000
  · have he : x.val = 1000 * (0 : Fin 2).val + (⟨x.val, hl⟩ : Fin 1000).val := by simp
    rw [halves_at _ _ k x 0 ⟨x.val, hl⟩ he, if_pos rfl, pay3_at]
    exact h3_eq m c (prev t) e (by show (t.val - 1) / 2 = _; omega) 0 (by show (t.val - 1) % 2 = 0; omega) v k _ x he
  · have he : x.val = 1000 * (1 : Fin 2).val + (⟨x.val - 1000, by omega⟩ : Fin 1000).val := by show x.val = 1000 * 1 + (x.val - 1000); omega
    rw [halves_at _ _ k x 1 ⟨x.val - 1000, by omega⟩ he, if_neg (by decide), pay4_at]
    exact h3_eq m c t e (by omega) 1 (by show t.val % 2 = 1; omega) v k _ x he

/-- The call's output. -/
theorem out_eq (e : Fin 8) (k : Fin 2) (d : Fin 64) (hk : 8 * k.val + e.val < 16)
    (h2 : after hostOps1 (m c) main_arg2 = m c main_arg2) (h4 : after hostOps1 (m c) main_arg4 = m c main_arg4)
    (h8 : after hostOps1 (m c) main_arg8 = m c main_arg8) :
    outAt (ent m) c (pt e) (ix3 0 k d) = expert (fun x => m c main_call0_v4_5 (ix2 ⟨8 * k.val + e.val, hk⟩ x))
      (fun y x => m c main_arg2 (ix3 e y x)) (fun y => m c main_arg3 (ix2 e y))
      (fun y x => m c main_arg4 (ix3 e y x)) (fun y => m c main_arg5 (ix2 e y))
      (fun y x => m c main_arg6 (ix3 e y x)) (fun y => m c main_arg7 (ix2 e y))
      (fun y x => m c main_arg8 (ix3 e y x)) (fun y => m c main_arg9 (ix2 e y)) d := by
  have hq : (pt e).val = 2 * e.val + 1 := rfl
  have hd : (pt e).val / 2 = e.val := by omega
  have h14 : ∀ (z : Fin 1) d, after hostOps1 (m c) main_call0_v14 (ix3 e z d) = m c main_arg9 (ix2 e d) := fun z d => by
    rw [Subsingleton.elim z 0]; exact KHost.v14 _ e d
  unfold outAt expert affine
  pointwise [k1_pay5]
  simp only [h3_whole m c (pt e) e hq, h2_eq m c (prev (pt e)) e (by show ((pt e).val - 1) / 2 = _; omega) k _ hk h2 h4,
    iblk_7 (ent m) c (pt e) e hd, iblk_8 (ent m) c (pt e) e hd, ent, h14, h8]

end Cert.KernelIdeal.Region1
-- ==== Proof.Arr0.lean ====
module

public import proofs.«01_k».proof.Proof.KernelIdealRegion0
public import Idealize.ShloMosaic.Lib.Pipeline.ValueKit
public import Idealize.ShloMosaic.Lib.Pointwise

/-! The first call's outputs as arrays. -/

@[expose] public section

set_option maxRecDepth 16384

noncomputable section

namespace Cert.KernelIdeal.Region0

open Cert.KernelIdeal Cert.KernelIdeal.Gen Cert.Reads
open Idealize.ShloMosaic Idealize.ShloMosaic.TcCoe Idealize.ShloMosaic.Tactic
open Idealize.ShloMosaic.Pipeline (Dat Cfg Window)

variable {F : FTy → Type} [FloatOps F]
variable (V : (c : Dev nD) → (b : Ref sig .tc) → Buf (Elt F) ((c : Thread nD τ).loc b))

/-- Input block 0 is its array. -/
theorem iblk_0 (c : Dev nD) : (iblk V c 0 t0_0 : Vec F S1024x1024 .f32) = V c main_arg0 := by
  have e : win0_0.index t0_0 = ![0, 0] := by decide +kernel
  funext y
  blk_ext [iblk, e]

/-- Input block 1 is its array. -/
theorem iblk_1 (c : Dev nD) : (iblk V c 1 t0_0 : Vec F S1024x8 .f32) = V c main_call0_v3 := by
  have e : win0_1.index t0_0 = ![0, 0] := by decide +kernel
  funext y
  blk_ext [iblk, e]

/-- Input block 2 is its array. -/
theorem iblk_2 (c : Dev nD) : (iblk V c 2 t0_0 : Vec F S1024x8 .f32) = V c main_call0_cst := by
  have e : win0_2.index t0_0 = ![0, 0] := by decide +kernel
  funext y
  blk_ext [iblk, e]

/-- Output 3 after the run. -/
theorem arr_3 (c : Dev nD) : (dat V c).arrAt 3 cfg0.N = out_3 (V c main_arg0) (V c main_call0_v3) (V c main_call0_cst) := by
  refine (dat V c).arrAt_eq_of_after_last 3 t0_0 (by decide +kernel) _ fun j => ?_
  rw [after_3, iblk_0, iblk_1, iblk_2]
  blk_simp

/-- Output 4 after the run. -/
theorem arr_4 (c : Dev nD) : (dat V c).arrAt 4 cfg0.N = out_4 (V c main_arg0) (V c main_call0_v3) (V c main_call0_cst) := by
  refine (dat V c).arrAt_eq_of_after_last 4 t0_0 (by decide +kernel) _ fun j => ?_
  rw [after_4, iblk_0, iblk_1, iblk_2]
  blk_simp

/-- Output 5 after the run. -/
theorem arr_5 (c : Dev nD) : (dat V c).arrAt 5 cfg0.N = out_5 (V c main_arg0) (V c main_call0_v3) (V c main_call0_cst) := by
  refine (dat V c).arrAt_eq_of_after_last 5 t0_0 (by decide +kernel) _ fun j => ?_
  rw [after_5, iblk_0, iblk_1, iblk_2]
  blk_simp

/-- Output 6 after the run. -/
theorem arr_6 (c : Dev nD) : (dat V c).arrAt 6 cfg0.N = out_6 (V c main_arg0) (V c main_call0_v3) (V c main_call0_cst) := by
  refine (dat V c).arrAt_eq_of_after_last 6 t0_0 (by decide +kernel) _ fun j => ?_
  rw [after_6, iblk_0, iblk_1, iblk_2]
  blk_simp

/-- Output 7 after the run. -/
theorem arr_7 (c : Dev nD) : (dat V c).arrAt 7 cfg0.N = out_7 (V c main_arg0) (V c main_call0_v3) (V c main_call0_cst) := by
  refine (dat V c).arrAt_eq_of_after_last 7 t0_0 (by decide +kernel) _ fun j => ?_
  rw [after_7, iblk_0, iblk_1, iblk_2]
  blk_simp

/-- Output 8 after the run. -/
theorem arr_8 (c : Dev nD) : (dat V c).arrAt 8 cfg0.N = out_8 (V c main_arg0) (V c main_call0_v3) (V c main_call0_cst) := by
  refine (dat V c).arrAt_eq_of_after_last 8 t0_0 (by decide +kernel) _ fun j => ?_
  rw [after_8, iblk_0, iblk_1, iblk_2]
  blk_simp

end Cert.KernelIdeal.Region0
-- ==== Proof.Tie.lean ====
module

public import proofs.«01_k».proof.Proof.RealPart
public import proofs.«01_k».proof.Proof.KernelIdealRun
public import proofs.«01_k».proof.Proof.KRoute
public import proofs.«01_k».proof.Proof.KHost
public import proofs.«01_k».proof.Proof.KExpert
public import proofs.«01_k».proof.Proof.Arr0

/-! The buffers between the kernel's calls hold the reference's values: routing and experts. -/

@[expose] public section

set_option maxRecDepth 16384

noncomputable section

namespace Cert.Tie

open Idealize.ShloMosaic Idealize.ShloMosaic.TcCoe Cert.KernelIdeal Cert.KernelIdeal.Gen Cert.KernelIdeal.Run Cert.Route Cert.RealPart

variable (m : (r : Loc nD τ sig) → Buf (Elt Ideal) r) (c : Dev nD) (V : Valuation Cert.ReferenceIdeal.τ Cert.ReferenceIdeal.sig (Elt Ideal))

/-- The two programs' inputs agree. -/
structure Agree : Prop where
  a0 : ∀ i j, V Cert.ReferenceIdeal.main_arg0 (ix2 i j) = m ((c : Thread nD τ).loc main_arg0) (ix2 i j)
  a1 : ∀ i j, V Cert.ReferenceIdeal.main_arg1 (ix2 i j) = m ((c : Thread nD τ).loc main_arg1) (ix2 i j)
  a2 : ∀ i j k, V Cert.ReferenceIdeal.main_arg2 (ix3 i j k) = m ((c : Thread nD τ).loc main_arg2) (ix3 i j k)
  a3 : ∀ i j, V Cert.ReferenceIdeal.main_arg3 (ix2 i j) = m ((c : Thread nD τ).loc main_arg3) (ix2 i j)
  a4 : ∀ i j k, V Cert.ReferenceIdeal.main_arg4 (ix3 i j k) = m ((c : Thread nD τ).loc main_arg4) (ix3 i j k)
  a5 : ∀ i j, V Cert.ReferenceIdeal.main_arg5 (ix2 i j) = m ((c : Thread nD τ).loc main_arg5) (ix2 i j)
  a6 : ∀ i j k, V Cert.ReferenceIdeal.main_arg6 (ix3 i j k) = m ((c : Thread nD τ).loc main_arg6) (ix3 i j k)
  a7 : ∀ i j, V Cert.ReferenceIdeal.main_arg7 (ix2 i j) = m ((c : Thread nD τ).loc main_arg7) (ix2 i j)
  a8 : ∀ i j k, V Cert.ReferenceIdeal.main_arg8 (ix3 i j k) = m ((c : Thread nD τ).loc main_arg8) (ix3 i j k)
  a9 : ∀ i j, V Cert.ReferenceIdeal.main_arg9 (ix2 i j) = m ((c : Thread nD τ).loc main_arg9) (ix2 i j)

/-- The first host stretch leaves what it does not write. -/
theorem w1_of (r : Ref sig .tc) (h : r ∉ hostOps0_W) : W1 m c r = m ((c : Thread nD τ).loc r) :=
  (congrFun (V1_eq m c) _).symm.trans (V1_of m c r h)

theorem w2_of (r : Ref sig .tc) (h : r ∉ hostOps0_W) (h2 : r ∉ ([main_call0_v4_0, main_call0_v4_1, main_call0_v4_2, main_call0_v4_3, main_call0_v4_4, main_call0_v4_5] : List (Ref sig .tc))) :
    W2 m c r = m ((c : Thread nD τ).loc r) := (W2_of m c r h2).trans (w1_of m c r h)

theorem w3_of (r : Ref sig .tc) (h : r ∉ hostOps1_W) : W3 m c r = W2 m c r := by
  rw [← V3_eq, ← V2_eq]
  exact V3_of m (outs m) c r h

theorem w5_of (r : Ref sig .tc) (h : r ∉ hostOps2_W) : W5 m c r = W4 m c r := by
  rw [← V5_eq, ← V4_eq]
  exact V5_of m (outs m) c r h

theorem w7_of (r : Ref sig .tc) (h : r ∉ hostOps3_W) : W7 m c r = W6 m c r := by
  rw [← V7_eq, ← V6_eq]
  exact V7_of m (outs m) c r h

/-- The first call's inputs. -/
def x0 : Vec Ideal S1024x1024 .f32 := b1 m c main_arg0
def x1 : Vec Ideal S1024x8 .f32 := b1 m c main_call0_v3
def x2 : Vec Ideal S1024x8 .f32 := b1 m c main_call0_cst

theorem x0_at (r : Fin 1024) (k : Fin 1024) : x0 m c (ix2 r k) = m ((c : Thread nD τ).loc main_arg0) (ix2 r k) :=
  congrFun (w1_of m c main_arg0 (by decide)) _

variable {m c V} (H : Agree m c V) (h : Reals V)
include H

theorem lg_eq (r : Fin 1024) : KRoute.lg (x0 m c) (x1 m c) (x2 m c) r = RRoute.lg V r := by
  funext e
  rw [KRoute.lg_eq, v2_eq]
  unfold logits
  have e1 : ∀ k, (fun a b : EReal => a * b) (x0 m c (ix2 r k)) (x1 m c (ix2 k e)) = (fun a b : EReal => a * b) (V Cert.ReferenceIdeal.main_arg0 (ix2 r k)) (V Cert.ReferenceIdeal.main_arg1 (ix2 e k)) := by
    intro k
    refine congrArg₂ (fun a b : EReal => a * b) ((x0_at m c r k).trans (H.a0 r k).symm) ?_
    unfold x1 b1 W1
    exact (KHost.v3 _ k e).trans (H.a1 e k).symm
  have e2 : x2 m c (ix2 r e) = Ideal.ofBits .f32 (Cert.ReferenceIdeal.lit0 (S1024x8.rowMajor (ix2 r e))) := by
    unfold x2 b1 W1
    exact (KHost.cst _ r e).trans (congrArg _ (Tables.noise_eq _))
  exact congrArg₂ (fun a b : EReal => a + b) (Finset.sum_congr rfl fun k _ => e1 k) e2

include h

theorem lg_ne (r : Fin 1024) (j : Fin 8) : KRoute.lg (x0 m c) (x1 m c) (x2 m c) r j ≠ ⊥ := by
  rw [lg_eq H]
  obtain ⟨a, ha⟩ := lg_real h r j
  rw [ha]
  exact EReal.coe_ne_bot a

theorem w2_v40 (r : Fin 1024) (e : Fin 8) : W2 m c main_call0_v4_0 (ix2 r e) = gate (RRoute.lg V r) 0 e := by
  rw [W2_0, Region0.arr_3, ← lg_eq H]
  exact KRoute.pay11_eq (x0 m c) (x1 m c) (x2 m c) r e

theorem w2_v41 (r : Fin 1024) (e : Fin 8) : W2 m c main_call0_v4_1 (ix2 r e) = gate (RRoute.lg V r) 1 e := by
  rw [W2_1, Region0.arr_4, ← lg_eq H]
  exact KRoute.pay12_eq (x0 m c) (x1 m c) (x2 m c) r (lg_ne H h r) e

theorem w2_v42 (r : Fin 1024) (e : Fin 8) : W2 m c main_call0_v4_2 (ix2 r e) = disp (RRoute.lg V r) 0 e := by
  rw [W2_2, Region0.arr_5, ← lg_eq H]
  exact KRoute.pay13_eq (x0 m c) (x1 m c) (x2 m c) r e

theorem w2_v43 (r : Fin 1024) (e : Fin 8) : W2 m c main_call0_v4_3 (ix2 r e) = disp (RRoute.lg V r) 1 e := by
  rw [W2_3, Region0.arr_6, ← lg_eq H]
  exact KRoute.out6_eq (x0 m c) (x1 m c) (x2 m c) r (lg_ne H h r) e

theorem w2_v45 (k : Fin 2) (e : Fin 8) (hk : 8 * k.val + e.val < 16) (x : Fin 1024) :
    W2 m c main_call0_v4_5 (ix2 ⟨8 * k.val + e.val, hk⟩ x) = RExpert.sent V k e x := by
  rw [W2_5, Region0.arr_8]
  refine (KRoute.out8_eq (x0 m c) (x1 m c) (x2 m c) (lg_ne H h) ⟨8 * k.val + e.val, hk⟩ x k e rfl).trans ?_
  unfold RExpert.sent
  refine Finset.sum_congr (M := EReal) rfl fun r _ => ?_
  refine congrArg₂ (fun a b : EReal => a * b) ?_ ((x0_at m c r x).trans (H.a0 r x).symm)
  rw [lg_eq H]

/-- The experts' outputs after the second call. -/
theorem w4_v15 (e : Fin 8) (k : Fin 2) (d : Fin 64) : W4 m c main_call0_v15 (ix3 e k d) = RExpert.out V (RExpert.sent V k e) e d := by
  have hk : 8 * k.val + e.val < 16 := by have := k.isLt; have := e.isLt; omega
  have hw : b3 m = Region1.ent (W2 m) := by
    unfold b3 W3 Region1.ent
    rfl
  rw [W4_0, Region1.arr_9, hw]
  refine (Region1.out_eq (W2 m) c e k d hk (w3_of m c main_arg2 (by decide)) (w3_of m c main_arg4 (by decide)) (w3_of m c main_arg8 (by decide))).trans ?_
  unfold RExpert.out
  have q2 := w2_of m c main_arg2 (by decide) (by decide)
  have q3 := w2_of m c main_arg3 (by decide) (by decide)
  have q4 := w2_of m c main_arg4 (by decide) (by decide)
  have q5 := w2_of m c main_arg5 (by decide) (by decide)
  have q6 := w2_of m c main_arg6 (by decide) (by decide)
  have q7 := w2_of m c main_arg7 (by decide) (by decide)
  have q8 := w2_of m c main_arg8 (by decide) (by decide)
  have q9 := w2_of m c main_arg9 (by decide) (by decide)
  have i0 := w2_v45 H h k e hk
  rw [q2, q3, q4, q5, q6, q7, q8, q9]
  congr 1
  · funext x; exact i0 x
  · funext y x; exact (H.a2 e y x).symm
  · funext y; exact (H.a3 e y).symm
  · funext y x; exact (H.a4 e y x).symm
  · funext y; exact (H.a5 e y).symm
  · funext y x; exact (H.a6 e y x).symm
  · funext y; exact (H.a7 e y).symm
  · funext y x; exact (H.a8 e y x).symm
  · funext y; exact (H.a9 e y).symm

end Cert.Tie
-- ==== Proof.Arr2.lean ====
module

public import proofs.«01_k».proof.Proof.KernelIdealRegion2
public import Idealize.ShloMosaic.Lib.Pipeline.ValueKit
public import Idealize.ShloMosaic.Lib.Pointwise

/-! The third call's outputs as arrays. -/

@[expose] public section

set_option maxRecDepth 16384

noncomputable section

namespace Cert.KernelIdeal.Region2

open Cert.KernelIdeal Cert.KernelIdeal.Gen Cert.Reads
open Idealize.ShloMosaic Idealize.ShloMosaic.TcCoe Idealize.ShloMosaic.Tactic
open Idealize.ShloMosaic.Pipeline (Dat Cfg Window)

variable {F : FTy → Type} [FloatOps F]
variable (V : (c : Dev nD) → (b : Ref sig .tc) → Buf (Elt F) ((c : Thread nD τ).loc b))

/-- Input block 0 is its array. -/
theorem iblk_0 (c : Dev nD) (t : Fin cfg2.N) : (iblk V c 0 t : Vec F S1024x8 .f32) = V c main_call0_v4_0 := by
  have e : ∀ t, win2_0.index t = ![0, 0] := by decide +kernel
  funext y
  blk_ext [iblk, e t]

/-- Input block 1 is its array. -/
theorem iblk_1 (c : Dev nD) (t : Fin cfg2.N) : (iblk V c 1 t : Vec F S1024x8 .f32) = V c main_call0_v4_1 := by
  have e : ∀ t, win2_1.index t = ![0, 0] := by decide +kernel
  funext y
  blk_ext [iblk, e t]

/-- Input block 2 is its array. -/
theorem iblk_2 (c : Dev nD) (t : Fin cfg2.N) : (iblk V c 2 t : Vec F S8x64 .f32) = V c main_call0_v17 := by
  have e : ∀ t, win2_2.index t = ![0, 0] := by decide +kernel
  funext y
  blk_ext [iblk, e t]

/-- Input block 3 is its array. -/
theorem iblk_3 (c : Dev nD) (t : Fin cfg2.N) : (iblk V c 3 t : Vec F S8x64 .f32) = V c main_call0_v19 := by
  have e : ∀ t, win2_3.index t = ![0, 0] := by decide +kernel
  funext y
  blk_ext [iblk, e t]

/-- Input block 4 is its array. -/
theorem iblk_4 (c : Dev nD) (t : Fin cfg2.N) : (iblk V c 4 t : Vec F S2048x1 .f32) = V c main_call0_v1 := by
  have e : ∀ t, win2_4.index t = ![0, 0] := by decide +kernel
  funext y
  blk_ext [iblk, e t]

/-- Input block 5 is its array. -/
theorem iblk_5 (c : Dev nD) (t : Fin cfg2.N) : (iblk V c 5 t : Vec F S1x2048 .f32) = V c main_call0_v2 := by
  have e : ∀ t, win2_5.index t = ![0, 0] := by decide +kernel
  funext y
  blk_ext [iblk, e t]

/-- Input block 6 is its array. -/
theorem iblk_6 (c : Dev nD) (t : Fin cfg2.N) : (iblk V c 6 t : Vec F S2048x1 .f32) = V c main_call0_v0 := by
  have e : ∀ t, win2_6.index t = ![0, 0] := by decide +kernel
  funext y
  blk_ext [iblk, e t]

/-- The first output after the run. -/
theorem arr_7 (c : Dev nD) : (dat V c).arrAt 7 cfg2.N = out7 V c := by
  refine (dat V c).arrAt_eq_of_after_last 7 t2_7 (by decide +kernel) _ fun j => ?_
  rw [after_7]
  blk_simp
  rfl

/-- The second output after the run. -/
theorem arr_8 (c : Dev nD) : (dat V c).arrAt 8 cfg2.N = k2_pay1 (accN V c cfg2.N) := by
  refine (dat V c).arrAt_eq_of_after_last 8 t2_7 (by decide +kernel) _ fun j => ?_
  rw [after_8]
  blk_simp
  rfl

end Cert.KernelIdeal.Region2
-- ==== Proof.Mmd.lean ====
module

public import proofs.«01_k».proof.Proof.Balance

/-! The mean discrepancy of two samples of one array's rows, over real entries: the sum over pairs of sample
rows is a signed sum over pairs of array rows, and the five widths' exponentials are powers of one. -/

@[expose] public section

noncomputable section

namespace Cert.Mmd

open Idealize.ShloMosaic

/-- The squared distance of two rows. -/
def lsq {ι : Type} (x : ι → Fin 64 → ℝ) (R C : ι) : ℝ := ∑ c, (x R c - x C c) * (x R c - x C c)

theorem lsq_nonneg {ι : Type} (x : ι → Fin 64 → ℝ) (R C : ι) : 0 ≤ lsq x R C := Finset.sum_nonneg fun _ _ => mul_self_nonneg _

/-- The squared distance, expanded. -/
theorem lsq_expand {ι : Type} (x : ι → Fin 64 → ℝ) (R C : ι) :
    lsq x R C = (∑ c, -2 * x R c * x C c) + (∑ c, x R c * x R c) + ∑ c, x C c * x C c := by
  unfold lsq
  rw [← Finset.sum_add_distrib, ← Finset.sum_add_distrib]
  exact Finset.sum_congr rfl fun c _ => by ring

/-- Over `n` rows, the sum of all the squared distances. -/
theorem sum_lsq {κ : Type} [Fintype κ] (y : κ → Fin 64 → ℝ) :
    ∑ i, ∑ j, lsq y i j = 2 * (Fintype.card κ : ℝ) * (∑ i, ∑ c, y i c * y i c) - 2 * ∑ c, (∑ i, y i c) * (∑ i, y i c) := by
  have h1 : ∀ i, ∑ j, lsq y i j = (∑ c, -2 * y i c * ∑ j, y j c) + (Fintype.card κ : ℝ) * (∑ c, y i c * y i c) + ∑ j, ∑ c, y j c * y j c := fun i => by
    simp only [lsq_expand, Finset.sum_add_distrib, Finset.sum_const, Finset.card_univ, nsmul_eq_mul]
    congr 2
    rw [Finset.sum_comm]
    simp only [Finset.mul_sum]
  simp only [h1, Finset.sum_add_distrib, Finset.sum_const, Finset.card_univ, nsmul_eq_mul, ← Finset.mul_sum]
  have h2 : ∑ i, ∑ c, -2 * y i c * ∑ j, y j c = -2 * ∑ c, (∑ i, y i c) * ∑ j, y j c := by
    rw [Finset.sum_comm, Finset.mul_sum]
    refine Finset.sum_congr rfl fun c _ => ?_
    rw [← Finset.sum_mul, ← Finset.mul_sum]
    ring
  rw [h2]
  ring

/-- One pair's five exponentials, as the powers of the widest: `B` is the middle width. -/
def five (l B : ℝ) : ℝ :=
  if B = 0 then (if l = 0 then 5 else 0)
  else Real.exp (-l / (16 * B)) + Real.exp (-l / (8 * B)) + Real.exp (-l / (4 * B)) + Real.exp (-l / (2 * B)) + Real.exp (-l / B)

/-- The powers of one number. -/
def powers (u : EReal) : EReal := u + u * u + u * u * (u * u) + u * u * (u * u) * (u * u * (u * u))
  + u * u * (u * u) * (u * u * (u * u)) * (u * u * (u * u) * (u * u * (u * u)))

theorem powers_coe (u : ℝ) : powers (u : EReal) = ((u + u ^ 2 + u ^ 4 + u ^ 8 + u ^ 16 : ℝ) : EReal) := by
  unfold powers
  simp only [← EReal.coe_mul, ← EReal.coe_add]
  congr 1
  ring

theorem kernel_five (l B : ℝ) (hl : 0 ≤ l) : powers (Ideal.exp ((0 - (l : EReal)) * Ideal.div 1 ((16 * B : ℝ) : EReal))) = (five l B : EReal) := by
  unfold five
  by_cases hB : B = 0
  · subst hB
    have h0 : Ideal.div 1 ((16 * (0 : ℝ) : ℝ) : EReal) = (⊤ : EReal) := by
      rw [mul_zero, EReal.coe_zero]
      unfold Ideal.div
      rw [if_pos rfl, if_pos (by norm_num)]
    rw [h0, if_pos rfl]
    by_cases h : l = 0
    · subst h
      rw [if_pos rfl, EReal.coe_zero, sub_zero, zero_mul, ← EReal.coe_zero, Ideal.exp_coe, Real.exp_zero, powers_coe]
      norm_num
    · have hp : 0 < l := lt_of_le_of_ne hl (Ne.symm h)
      rw [if_neg h, ← EReal.coe_zero, ← EReal.coe_sub, EReal.coe_mul_top_of_neg (by linarith)]
      have : Ideal.exp (⊥ : EReal) = ((0 : ℝ) : EReal) := rfl
      rw [this, powers_coe]
      norm_num
  · rw [if_neg hB, Ideal.div_coe (by simpa using hB), one_mul, ← EReal.coe_zero, ← EReal.coe_sub, ← EReal.coe_mul, Ideal.exp_coe, powers_coe]
    congr 1
    simp only [← Real.exp_nat_mul]
    push_cast
    rw [show (0 - l) * (1 / (16 * B)) = -l / (16 * B) by ring, show 2 * (-l / (16 * B)) = -l / (8 * B) by ring,
      show 4 * (-l / (16 * B)) = -l / (4 * B) by ring, show 8 * (-l / (16 * B)) = -l / (2 * B) by ring,
      show 16 * (-l / (16 * B)) = -l / B by ring]

/-- The reference's five exponentials. -/
def widths (l b : EReal) : EReal :=
  Ideal.exp (Ideal.div (-l) b) + Ideal.exp (Ideal.div (-l) (b * Ideal.ofBits .f32 1073741824#32)) + Ideal.exp (Ideal.div (-l) (b * Ideal.ofBits .f32 1082130432#32))
    + Ideal.exp (Ideal.div (-l) (b * Ideal.ofBits .f32 1090519040#32)) + Ideal.exp (Ideal.div (-l) (b * Ideal.ofBits .f32 1098907648#32))

theorem bits_4 : Ideal.ofBits .f32 1082130432#32 = ((4 : ℝ) : EReal) := by
  simp [Ideal.ofBits, Ideal.ieee]; rw [← EReal.coe_mul]; norm_num
theorem bits_8 : Ideal.ofBits .f32 1090519040#32 = ((8 : ℝ) : EReal) := by
  simp [Ideal.ofBits, Ideal.ieee]; rw [← EReal.coe_mul]; norm_num
theorem bits_16 : Ideal.ofBits .f32 1098907648#32 = ((16 : ℝ) : EReal) := by
  simp [Ideal.ofBits, Ideal.ieee]; rw [← EReal.coe_mul]; norm_num
theorem bits_quarter : Ideal.ofBits .f32 1048576000#32 = ((1 / 4 : ℝ) : EReal) := by
  simp [Ideal.ofBits, Ideal.ieee]; rw [← EReal.coe_mul]; norm_num
theorem bits_3680 : Ideal.ofBits .f32 1164312576#32 = ((3680 : ℝ) : EReal) := by
  simp [Ideal.ofBits, Ideal.ieee]; rw [← EReal.coe_mul]; norm_num
theorem bits_pairs : Ideal.ofBits .f32 1246660416#32 = ((3383760 : ℝ) : EReal) := by
  simp [Ideal.ofBits, Ideal.ieee]; rw [← EReal.coe_mul]; norm_num
theorem bits_846400 : Ideal.ofBits .f32 1229890560#32 = ((846400 : ℝ) : EReal) := by
  simp [Ideal.ofBits, Ideal.ieee]; rw [← EReal.coe_mul]; norm_num
theorem bits_neg2 : Ideal.ofBits .f32 3221225472#32 = ((-2 : ℝ) : EReal) := by
  simp [Ideal.ofBits, Ideal.ieee]; rw [← EReal.coe_mul]; norm_num
theorem bits_neg1 : Ideal.ofBits .f32 3212836864#32 = ((-1 : ℝ) : EReal) := by
  simp [Ideal.ofBits, Ideal.ieee]; rw [← EReal.coe_mul]; norm_num

theorem reference_five (l B : ℝ) (hl : 0 ≤ l) : widths (l : EReal) (B : EReal) = ((if B = 0 then 0 else five l B : ℝ) : EReal) := by
  unfold widths five
  rw [Balance.bits_2, bits_4, bits_8, bits_16]
  by_cases hB : B = 0
  · subst hB
    have h0 : Ideal.exp (Ideal.div (-(l : EReal)) ((0 : ℝ) : EReal)) = ((0 : ℝ) : EReal) := by
      have : Ideal.div (-(l : EReal)) ((0 : ℝ) : EReal) = (⊥ : EReal) := by
        unfold Ideal.div
        rw [EReal.coe_zero, if_pos rfl, if_neg]
        rw [← EReal.coe_neg, ← EReal.coe_zero, EReal.coe_lt_coe_iff]
        linarith
      rw [this]; rfl
    simp only [← EReal.coe_mul, zero_mul, h0, if_pos, ← EReal.coe_add, add_zero]
  · rw [if_neg hB, if_neg hB]
    simp only [← EReal.coe_mul, ← EReal.coe_neg]
    rw [Ideal.div_coe hB, Ideal.div_coe (by simpa using hB), Ideal.div_coe (by simpa using hB), Ideal.div_coe (by simpa using hB), Ideal.div_coe (by simpa using hB)]
    simp only [← EReal.coe_mul, Ideal.exp_coe, ← EReal.coe_add]
    congr 1
    rw [show -l * (1 / B) = -l / B by ring, show -l * (1 / (B * 2)) = -l / (2 * B) by ring, show -l * (1 / (B * 4)) = -l / (4 * B) by ring,
      show -l * (1 / (B * 8)) = -l / (8 * B) by ring, show -l * (1 / (B * 16)) = -l / (16 * B) by ring]
    ring

variable {ι : Type} [Fintype ι] (x : ι → Fin 64 → ℝ) (ρ : Fin 1840 → ι) (ε : Fin 1840 → ℝ) (m s : ι → ℝ)

/-- The sum of the squared distances of the sample rows. -/
def total : ℝ := ∑ i, ∑ j, lsq x (ρ i) (ρ j)

/-- The middle width. -/
def width : ℝ := total x ρ * (1 / 3383760) * (1 / 4)

theorem total_eq (hm : ∀ g : ι → ℝ, ∑ i, g (ρ i) = ∑ R, g R * m R) :
    3680 * (∑ R, (∑ c, x R c * x R c) * m R) - 2 * ∑ c, (∑ R, x R c * m R) * (∑ R, x R c * m R) = total x ρ := by
  have h := sum_lsq fun i => x (ρ i)
  rw [hm fun R => ∑ c, x R c * x R c] at h
  have hc : ∀ c, ∑ i, x (ρ i) c = ∑ R, x R c * m R := fun c => hm fun R => x R c
  simp only [hc, Fintype.card_fin] at h
  unfold total
  refine Eq.trans ?_ h.symm
  norm_num

theorem signed_eq (hs : ∀ g : ι → ℝ, ∑ i, ε i * g (ρ i) = ∑ R, g R * s R) (f : ι → ι → ℝ) :
    ∑ R, (∑ C, f R C * s C) * s R = ∑ i, ∑ j, ε i * ε j * f (ρ i) (ρ j) := by
  simp only [← hs]
  refine Finset.sum_congr rfl fun i _ => ?_
  rw [Finset.mul_sum]
  exact Finset.sum_congr rfl fun j _ => by ring

/-- The kernel's signed sum is the reference's, the width zero included. -/
theorem signed_five (hs : ∀ g : ι → ℝ, ∑ i, ε i * g (ρ i) = ∑ R, g R * s R) (h0 : ∑ i, ε i = 0) :
    ∑ R, (∑ C, five (lsq x R C) (width x ρ) * s C) * s R
      = ∑ i, ∑ j, ε i * ε j * (if width x ρ = 0 then 0 else five (lsq x (ρ i) (ρ j)) (width x ρ)) := by
  rw [signed_eq ρ ε s hs fun R C => five (lsq x R C) (width x ρ)]
  by_cases h : width x ρ = 0
  · have ht : ∑ i, ∑ j, lsq x (ρ i) (ρ j) = 0 := by
      have : total x ρ * (1 / 3383760) * (1 / 4) = 0 := h
      unfold total at this
      linarith
    have hz : ∀ i j, lsq x (ρ i) (ρ j) = 0 := fun i j => by
      have h1 := (Finset.sum_eq_zero_iff_of_nonneg fun i _ => Finset.sum_nonneg fun j _ => lsq_nonneg x (ρ i) (ρ j)).mp ht i (Finset.mem_univ i)
      exact (Finset.sum_eq_zero_iff_of_nonneg fun j _ => lsq_nonneg x (ρ i) (ρ j)).mp h1 j (Finset.mem_univ j)
    simp only [hz, h, five, if_true, mul_zero, Finset.sum_const_zero]
    simp only [mul_assoc, ← Finset.mul_sum, ← Finset.sum_mul, h0, zero_mul, mul_zero, Finset.sum_const_zero]
  · simp only [if_neg h]

/-- The sign of a sample row: the first half plus, the second minus. -/
def sign (i : Fin 1840) : ℝ := if i.val < 920 then 1 else -1

/-- A sum over the sample, by halves. -/
theorem sum_halves {M : Type} [AddCommMonoid M] (f : Fin 1840 → M) :
    ∑ i, f i = ∑ i : Fin 920, f ⟨i.val, by omega⟩ + ∑ i : Fin 920, f ⟨920 + i.val, by omega⟩ :=
  Fin.sum_univ_add (a := 920) (b := 920) f

theorem sum_sign : ∑ i, sign i = 0 := by
  rw [sum_halves]
  have h1 : ∀ i : Fin 920, sign ⟨i.val, by omega⟩ = 1 := fun i => if_pos i.isLt
  have h2 : ∀ i : Fin 920, sign ⟨920 + i.val, by omega⟩ = -1 := fun i => if_neg (by simp)
  simp only [h1, h2, Finset.sum_const]
  simp

theorem sum_blocks (k : Fin 1840 → Fin 1840 → ℝ) :
    ∑ i : Fin 920, ∑ j : Fin 920, (k ⟨i.val, by omega⟩ ⟨j.val, by omega⟩ + k ⟨920 + i.val, by omega⟩ ⟨920 + j.val, by omega⟩
      - k ⟨i.val, by omega⟩ ⟨920 + j.val, by omega⟩ - k ⟨920 + i.val, by omega⟩ ⟨j.val, by omega⟩)
      = ∑ i, ∑ j, sign i * sign j * k i j := by
  have h1 : ∀ i : Fin 920, sign ⟨i.val, by omega⟩ = 1 := fun i => if_pos i.isLt
  have h2 : ∀ i : Fin 920, sign ⟨920 + i.val, by omega⟩ = -1 := fun i => if_neg (by simp)
  simp only [sum_halves (M := ℝ), h1, h2, Finset.sum_sub_distrib, Finset.sum_add_distrib, one_mul, mul_neg, neg_mul, mul_one, neg_neg, Finset.sum_neg_distrib]
  ring

end Cert.Mmd
-- ==== Proof.KMmd.lean ====
module

public import proofs.«01_k».proof.Proof.Arr2
public import proofs.«01_k».proof.Proof.Mmd
public import Mathlib.Algebra.BigOperators.Fin

/-! The third call: its two factors, its width, and its signed sum over pairs of rows. -/

@[expose] public section

set_option maxRecDepth 16384

noncomputable section

namespace Cert.KernelIdeal.Region2

open Idealize.ShloMosaic Idealize.ShloMosaic.TcCoe Cert.KernelIdeal Cert.KernelIdeal.Gen Cert.Mmd

/-- The position of a row: the choice and the row. -/
def pos (R : Fin 2 × Fin 1024) : Fin 2048 := ⟨1024 * R.1.val + R.2.val, by have := R.1.isLt; have := R.2.isLt; omega⟩

/-- Positions are the numbers below 2048. -/
theorem sum_pos {M : Type} [AddCommMonoid M] (g : Fin 2048 → M) : ∑ i, g i = ∑ R, g (pos R) := by
  refine (Equiv.sum_comp (finProdFinEquiv (m := 2) (n := 1024)) g).symm.trans (Finset.sum_congr rfl fun R _ => congrArg g (Fin.ext ?_))
  show R.2.val + 1024 * R.1.val = 1024 * R.1.val + R.2.val
  omega

/-- The two stored halves, read at an index. -/
theorem halves_at (p q : Vec Ideal S1024x128 .f32) (R : Fin 2 × Fin 1024) (d : Fin 128) :
    (View.canon (Val := Elt Ideal) [⟨rHi, p⟩, ⟨rLo, q⟩] : Vec Ideal S2048x128 .f32) (ix2 (pos R) d) = if R.1 = 0 then q (ix2 R.2 d) else p (ix2 R.2 d) := by
  obtain ⟨P, a⟩ := R
  have ha := a.isLt
  have hP : P = 0 ∨ P = 1 := (by decide : ∀ k : Fin 2, k = 0 ∨ k = 1) P
  rcases hP with rfl | rfl
  · have hn : (ix2 (pos (0, a)) d : S2048x128.Idx) ∉ rHi.set := by
      intro h
      have h1 : 1024 ≤ 1024 * 0 + a.val := (Rect.mem_set_unit.mp h 0).1
      omega
    rw [View.canon_cons_of_not_mem (⟨rHi, p⟩ : View.Piece (Elt Ideal) S2048x128 .f32) _ hn, if_pos rfl]
    have e : (ix2 (pos (0, a)) d : S2048x128.Idx) = rLo.emb (ix2 a d) := by
      funext z
      fin_cases z
      · exact Fin.ext (by show 1024 * 0 + a.val = 0 + 1 * a.val; omega)
      · exact Fin.ext (by show d.val = 0 + 1 * d.val; omega)
    rw [e]
    exact View.canon_cons_emb rLo q [] (ix2 a d)
  · have e : (ix2 (pos (1, a)) d : S2048x128.Idx) = rHi.emb (ix2 a d) := by
      funext z
      fin_cases z
      · exact Fin.ext (by show 1024 * 1 + a.val = 1024 + 1 * a.val; omega)
      · exact Fin.ext (by show d.val = 0 + 1 * d.val; omega)
    rw [if_neg (show ¬ (1 : Fin 2) = 0 by decide), e]
    exact View.canon_cons_emb rHi p _ (ix2 a d)

/-- The left factor's row from one row of the outputs. -/
def leftRow (v : Fin 64 → ℝ) (d : Fin 128) : ℝ := if h : d.val < 64 then -2 * v ⟨d.val, h⟩ else if d.val = 64 then ∑ c, v c * v c else if d.val = 65 then 1 else 0
/-- The right factor's row from one row of the outputs. -/
def rightRow (v : Fin 64 → ℝ) (d : Fin 128) : ℝ := if h : d.val < 64 then v ⟨d.val, h⟩ else if d.val = 64 then 1 else if d.val = 65 then ∑ c, v c * v c else 0

/-- A sum over the 128 columns. -/
theorem sum_columns (f : Fin 128 → ℝ) (h0 : ∀ d : Fin 128, 66 ≤ d.val → f d = 0) : ∑ d, f d = (∑ c : Fin 64, f ⟨c.val, by omega⟩) + f 64 + f 65 := by
  have h1 : ∑ d, f d = (∑ c : Fin 64, f ⟨c.val, by omega⟩) + ∑ c : Fin 64, f ⟨64 + c.val, by omega⟩ := Fin.sum_univ_add (a := 64) (b := 64) f
  have h2 : ∑ c : Fin 64, f ⟨64 + c.val, by omega⟩ = f 64 + f 65 := by
    rw [Fin.sum_univ_succ, Fin.sum_univ_succ, Finset.sum_eq_zero fun i _ => ?_, add_zero]
    · rfl
    · exact h0 _ (by show 66 ≤ 64 + (i.val + 1 + 1); omega)
  rw [h1, h2, add_assoc]

/-- The product of the two rows is the squared distance. -/
theorem rows_dot {ι : Type} (x : ι → Fin 64 → ℝ) (R C : ι) : ∑ d, leftRow (x R) d * rightRow (x C) d = lsq x R C := by
  rw [sum_columns _ fun d hd => ?_, lsq_expand]
  · have e1 : ∀ c : Fin 64, leftRow (x R) ⟨c.val, by omega⟩ * rightRow (x C) ⟨c.val, by omega⟩ = -2 * x R c * x C c := fun c => by
      unfold leftRow rightRow
      rw [dif_pos c.isLt, dif_pos c.isLt]
    have e2 : leftRow (x R) 64 * rightRow (x C) 64 = ∑ c, x R c * x R c := by simp [leftRow, rightRow]
    have e3 : leftRow (x R) 65 * rightRow (x C) 65 = ∑ c, x C c * x C c := by simp [leftRow, rightRow]
    simp only [e1, e2, e3]
  · unfold leftRow
    rw [dif_neg (by omega), if_neg (by omega), if_neg (by omega), zero_mul]

/-- A column of a stored row. -/
theorem left_col (v : Fin 64 → ℝ) (g : Fin 64 → EReal) (hg : ∀ c, g c = v c) (n o : Fin 1 → EReal) (z : Fin 62 → EReal) (hn : ∀ i, n i = ∑ c, g c * g c)
    (ho : ∀ i, o i = 1) (hz : ∀ i, z i = 0) (d : Fin 128) :
    (if h : d.val < 64 then Ideal.ofBits .f32 3221225472#32 * g ⟨d.val, h⟩ else if h1 : d.val - 64 < 1 then n ⟨d.val - 64, h1⟩
      else if h2 : d.val - 64 - 1 < 1 then o ⟨d.val - 64 - 1, h2⟩ else z ⟨d.val - 64 - 1 - 1, by omega⟩) = (leftRow v d : EReal) := by
  unfold leftRow
  by_cases h : d.val < 64
  · rw [dif_pos h, dif_pos h, hg, bits_neg2, EReal.coe_mul]
  · rw [dif_neg h, dif_neg h]
    by_cases h1 : d.val = 64
    · rw [dif_pos (by omega), if_pos h1, hn, Balance.coe_sum]
      exact Finset.sum_congr rfl fun c _ => by rw [hg, EReal.coe_mul]
    · rw [dif_neg (by omega), if_neg h1]
      by_cases h2 : d.val = 65
      · rw [dif_pos (by omega), if_pos h2, ho, EReal.coe_one]
      · rw [dif_neg (by omega), if_neg h2, hz, EReal.coe_zero]

theorem right_col (v : Fin 64 → ℝ) (g : Fin 64 → EReal) (hg : ∀ c, g c = v c) (n o : Fin 1 → EReal) (z : Fin 62 → EReal) (hn : ∀ i, n i = ∑ c, g c * g c)
    (ho : ∀ i, o i = 1) (hz : ∀ i, z i = 0) (d : Fin 128) :
    (if h : d.val < 64 then g ⟨d.val, h⟩ else if h1 : d.val - 64 < 1 then o ⟨d.val - 64, h1⟩
      else if h2 : d.val - 64 - 1 < 1 then n ⟨d.val - 64 - 1, h2⟩ else z ⟨d.val - 64 - 1 - 1, by omega⟩) = (rightRow v d : EReal) := by
  unfold rightRow
  by_cases h : d.val < 64
  · rw [dif_pos h, dif_pos h, hg]
  · rw [dif_neg h, dif_neg h]
    by_cases h1 : d.val = 64
    · rw [dif_pos (by omega), if_pos h1, ho, EReal.coe_one]
    · rw [dif_neg (by omega), if_neg h1]
      by_cases h2 : d.val = 65
      · rw [dif_pos (by omega), if_pos h2, hn, Balance.coe_sum]
        exact Finset.sum_congr rfl fun c _ => by rw [hg, EReal.coe_mul]
      · rw [dif_neg (by omega), if_neg h2, hz, EReal.coe_zero]

theorem one_at (i : Fin 1024) (j : Fin 1) : k2_pay7 (F := Ideal) (ix2 i j) = (1 : EReal) := by pointwise [k2_pay7]
theorem zero_at (i : Fin 1024) (j : Fin 62) : k2_pay8 (F := Ideal) (ix2 i j) = (0 : EReal) := by pointwise [k2_pay8]

section rows
variable (y : Vec Ideal S1024x8 .f32) (w : Vec Ideal S8x64 .f32) (i : Fin 1024)
theorem out2_at (c : Fin 64) : k2_pay2 (F := Ideal) y w (ix2 i c) = ∑ e, y (ix2 i e) * w (ix2 e c) := by pointwise [k2_pay2]
theorem out3_at (c : Fin 64) : k2_pay3 (F := Ideal) y w (ix2 i c) = ∑ e, y (ix2 i e) * w (ix2 e c) := by pointwise [k2_pay3]
theorem norm5_at (j : Fin 1) : k2_pay5 (F := Ideal) y w (ix2 i j) = ∑ c, k2_pay2 (F := Ideal) y w (ix2 i c) * k2_pay2 (F := Ideal) y w (ix2 i c) := by
  rw [Subsingleton.elim j 0]; pointwise [k2_pay5]
theorem norm6_at (j : Fin 1) : k2_pay6 (F := Ideal) y w (ix2 i j) = ∑ c, k2_pay3 (F := Ideal) y w (ix2 i c) * k2_pay3 (F := Ideal) y w (ix2 i c) := by
  rw [Subsingleton.elim j 0]; pointwise [k2_pay6]
end rows

variable (x0 x1 : Vec Ideal S1024x8 .f32) (x2 x3 : Vec Ideal S8x64 .f32) (x : Fin 2 × Fin 1024 → Fin 64 → ℝ)

/-- The left factor. -/
theorem a_at (h0 : ∀ r c, ∑ e, x0 (ix2 r e) * x2 (ix2 e c) = ((x (0, r) c : ℝ) : EReal)) (h1 : ∀ r c, ∑ e, x1 (ix2 r e) * x3 (ix2 e c) = ((x (1, r) c : ℝ) : EReal))
    (R : Fin 2 × Fin 1024) (d : Fin 128) : aOf (F := Ideal) x0 x1 x2 x3 (ix2 (pos R) d) = (leftRow (x R) d : EReal) := by
  unfold aOf
  rw [halves_at]
  obtain ⟨P, a⟩ := R
  have hP : P = 0 ∨ P = 1 := (by decide : ∀ k : Fin 2, k = 0 ∨ k = 1) P
  rcases hP with rfl | rfl
  · rw [if_pos rfl]
    pointwise [k2_pay9]
    exact left_col (x (0, a)) (fun c => k2_pay2 (F := Ideal) x0 x2 (ix2 a c)) (fun c => (out2_at x0 x2 a c).trans (h0 a c)) (fun j => k2_pay5 (F := Ideal) x0 x2 (ix2 a j))
      _ _ (norm5_at x0 x2 a) (one_at a) (zero_at a) d
  · rw [if_neg (show ¬ (1 : Fin 2) = 0 by decide)]
    pointwise [k2_pay10]
    exact left_col (x (1, a)) (fun c => k2_pay3 (F := Ideal) x1 x3 (ix2 a c)) (fun c => (out3_at x1 x3 a c).trans (h1 a c)) (fun j => k2_pay6 (F := Ideal) x1 x3 (ix2 a j))
      _ _ (norm6_at x1 x3 a) (one_at a) (zero_at a) d

/-- The right factor. -/
theorem b_at (h0 : ∀ r c, ∑ e, x0 (ix2 r e) * x2 (ix2 e c) = ((x (0, r) c : ℝ) : EReal)) (h1 : ∀ r c, ∑ e, x1 (ix2 r e) * x3 (ix2 e c) = ((x (1, r) c : ℝ) : EReal))
    (R : Fin 2 × Fin 1024) (d : Fin 128) : btOf (F := Ideal) x0 x1 x2 x3 (ix2 (pos R) d) = (rightRow (x R) d : EReal) := by
  unfold btOf
  rw [halves_at]
  obtain ⟨P, a⟩ := R
  have hP : P = 0 ∨ P = 1 := (by decide : ∀ k : Fin 2, k = 0 ∨ k = 1) P
  rcases hP with rfl | rfl
  · rw [if_pos rfl]
    pointwise [k2_pay12, k2_pay11]
    exact right_col (x (0, a)) (fun c => k2_pay2 (F := Ideal) x0 x2 (ix2 a c)) (fun c => (out2_at x0 x2 a c).trans (h0 a c)) (fun j => k2_pay5 (F := Ideal) x0 x2 (ix2 a j))
      _ _ (norm5_at x0 x2 a) (one_at a) (zero_at a) d
  · rw [if_neg (show ¬ (1 : Fin 2) = 0 by decide)]
    pointwise [k2_pay13]
    exact right_col (x (1, a)) (fun c => k2_pay3 (F := Ideal) x1 x3 (ix2 a c)) (fun c => (out3_at x1 x3 a c).trans (h1 a c)) (fun j => k2_pay6 (F := Ideal) x1 x3 (ix2 a j))
      _ _ (norm6_at x1 x3 a) (one_at a) (zero_at a) d

/-- The reciprocal of the widest width. -/
theorem coef_at (h0 : ∀ r c, ∑ e, x0 (ix2 r e) * x2 (ix2 e c) = ((x (0, r) c : ℝ) : EReal)) (h1 : ∀ r c, ∑ e, x1 (ix2 r e) * x3 (ix2 e c) = ((x (1, r) c : ℝ) : EReal))
    (x6 : Vec Ideal S2048x1 .f32) (m : Fin 2 × Fin 1024 → ℝ) (h6 : ∀ R, x6 (ix2 (pos R) 0) = ((m R : ℝ) : EReal)) (ρ : Fin 1840 → Fin 2 × Fin 1024)
    (hm : ∀ g : Fin 2 × Fin 1024 → ℝ, ∑ i, g (ρ i) = ∑ R, g R * m R) :
    coefOf (F := Ideal) x0 x1 x2 x3 x6 = Ideal.div 1 ((16 * width x ρ : ℝ) : EReal) := by
  have hlo : ∀ (r : Fin 1024) (h : r.val < 2048), x6 (ix2 ⟨r.val, h⟩ 0) = ((m (0, r) : ℝ) : EReal) := fun r h => by
    rw [← h6]
    exact congrArg (fun i => x6 (ix2 i 0)) (Fin.ext (by show r.val = 1024 * 0 + r.val; omega))
  have hhi : ∀ (r : Fin 1024) (h : 1024 + r.val < 2048), x6 (ix2 ⟨1024 + r.val, h⟩ 0) = ((m (1, r) : ℝ) : EReal) := fun r h => by
    rw [← h6]
    exact congrArg (fun i => x6 (ix2 i 0)) (Fin.ext (by show 1024 + r.val = 1024 * 1 + r.val; omega))
  have hn0 : ∀ r, k2_pay5 (F := Ideal) x0 x2 (ix2 r 0) = ((∑ c, x (0, r) c * x (0, r) c : ℝ) : EReal) := fun r => by
    rw [norm5_at, Balance.coe_sum]
    exact Finset.sum_congr rfl fun c _ => by rw [out2_at, h0, EReal.coe_mul]
  have hn1 : ∀ r, k2_pay6 (F := Ideal) x1 x3 (ix2 r 0) = ((∑ c, x (1, r) c * x (1, r) c : ℝ) : EReal) := fun r => by
    rw [norm6_at, Balance.coe_sum]
    exact Finset.sum_congr rfl fun c _ => by rw [out3_at, h1, EReal.coe_mul]
  unfold coefOf
  pointwise [k2_pay15, k2_pay14]
  simp only [out2_at, out3_at, h0, h1, hn0, hn1, hlo, hhi, bits_16, bits_3680, Balance.bits_2, bits_pairs, bits_quarter,
    ← EReal.coe_mul, ← Balance.coe_sum, ← EReal.coe_add, ← EReal.coe_sub, Ideal.div_coe (show (3383760 : ℝ) ≠ 0 by norm_num)]
  rw [width, ← total_eq x ρ m hm]
  simp only [Fintype.sum_prod_type, Fin.sum_univ_two, Finset.univ_unique, Finset.sum_singleton]
  rw [Finset.sum_congr rfl fun r _ => mul_comm (m (0, r)) _, Finset.sum_congr rfl fun r _ => mul_comm (m (1, r)) _]

/-- A row's part of the signed sum. -/
def part (a b : Vec Ideal S2048x128 .f32) (k : EReal) (x5 : Vec Ideal S1x2048 .f32) (x4 : Vec Ideal S2048x1 .f32) (R : Fin 2048) : EReal :=
  (∑ C : Fin 2048, powers (Ideal.exp ((0 - ∑ d : Fin 128, a (ix2 R d) * b (ix2 C d)) * k)) * x5 (ix2 0 C)) * x4 (ix2 R 0)

/-- One point adds its 256 rows' parts. -/
theorem step_at (t : Fin cfg2.N) (a b : Vec Ideal S2048x128 .f32) (k : Ideal .f32) (x5 : Vec Ideal S1x2048 .f32) (x4 : Vec Ideal S2048x1 .f32) (acc : Ideal .f32) :
    stepOf (F := Ideal) (grid2.coords t) a b k x5 x4 acc
      = (acc : EReal) + ∑ r : Fin 256, part a b k x5 x4 ⟨256 * t.val + r.val, by have : t.val < 8 := t.isLt; omega⟩ := by
  have hA : ∀ t : Fin cfg2.N, k2_off1 (grid2.coords t) = ![256 * t.val, 0] := by decide +kernel
  have hS : ∀ t : Fin cfg2.N, k2_off2 (grid2.coords t) = ![256 * t.val, 0] := by decide +kernel
  have ha : ∀ (r : Fin 256) (d : Fin 128), View.ld a (rA (grid2.coords t)) (ix2 r d) = a (ix2 ⟨256 * t.val + r.val, by have : t.val < 8 := t.isLt; omega⟩ d) := fun r d => by
    refine congrArg a ?_
    funext z
    fin_cases z
    · exact Fin.ext (by show k2_off1 (grid2.coords t) 0 + 1 * r.val = 256 * t.val + r.val; rw [hA]; show 256 * t.val + 1 * r.val = _; omega)
    · exact Fin.ext (by show k2_off1 (grid2.coords t) 1 + 1 * d.val = d.val; rw [hA]; show 0 + 1 * d.val = _; omega)
  have hs : ∀ (r : Fin 256), View.ld x4 (rS (grid2.coords t)) (ix2 r 0) = x4 (ix2 ⟨256 * t.val + r.val, by have : t.val < 8 := t.isLt; omega⟩ 0) := fun r => by
    refine congrArg x4 ?_
    funext z
    fin_cases z
    · exact Fin.ext (by show k2_off2 (grid2.coords t) 0 + 1 * r.val = 256 * t.val + r.val; rw [hS]; show 256 * t.val + 1 * r.val = _; omega)
    · exact Fin.ext (by show k2_off2 (grid2.coords t) 1 + 1 * 0 = 0; rw [hS]; rfl)
  unfold stepOf
  generalize View.ld a (rA (grid2.coords t)) = al at ha ⊢
  generalize View.ld x4 (rS (grid2.coords t)) = xl at hs ⊢
  pointwise [k2_pay16]
  simp only [ha, hs, Finset.univ_unique, Finset.sum_singleton]
  rfl

end Cert.KernelIdeal.Region2
-- ==== Proof.TieOut.lean ====
module

public import proofs.«01_k».proof.Proof.Tie
public import proofs.«01_k».proof.Proof.Balance
public import proofs.«01_k».proof.Proof.Arr1
public import proofs.«01_k».proof.Proof.Arr2
public import proofs.«01_k».proof.Proof.KMmd

/-! The kernel's first three results are the reference's. -/

@[expose] public section

set_option maxRecDepth 16384

noncomputable section

namespace Cert.Tie

open Idealize.ShloMosaic Idealize.ShloMosaic.TcCoe Cert.KernelIdeal Cert.KernelIdeal.Gen Cert.KernelIdeal.Run Cert.Route Cert.RealPart

variable {m : (r : Loc nD τ sig) → Buf (Elt Ideal) r} {c : Dev nD} {V : Valuation Cert.ReferenceIdeal.τ Cert.ReferenceIdeal.sig (Elt Ideal)}

/-- What the second and third stretches leave alone. -/
theorem w5_of_w2 (r : Ref sig .tc) (h1 : r ∉ hostOps1_W) (h2 : r ∉ ([main_call0_v15] : List (Ref sig .tc))) (h3 : r ∉ hostOps2_W) :
    W5 m c r = W2 m c r :=
  (w5_of m c r h3).trans ((W4_of m c r h2).trans (w3_of m c r h1))

theorem w6_of_w2 (r : Ref sig .tc) (h1 : r ∉ hostOps1_W) (h2 : r ∉ ([main_call0_v15] : List (Ref sig .tc))) (h3 : r ∉ hostOps2_W)
    (h4 : r ∉ ([main_v0_0, main_call0_v20_1] : List (Ref sig .tc))) : W6 m c r = W2 m c r :=
  (W6_of m c r h4).trans (w5_of_w2 r h1 h2 h3)

theorem w5_v0 (i : Fin 2048) : b5 m c main_call0_v0 (ix2 i 0) = Ideal.ofBits .f32 (lit1 i) := by
  have h : W5 m c main_call0_v0 = W1 m c main_call0_v0 := (w5_of_w2 _ (by decide) (by decide) (by decide)).trans (W2_of m c _ (by decide))
  unfold b5
  rw [h]
  unfold W1
  exact KHost.v0 _ i
theorem w5_v1 (i : Fin 2048) : b5 m c main_call0_v1 (ix2 i 0) = Ideal.ofBits .f32 (lit2 i) := by
  have h : W5 m c main_call0_v1 = W1 m c main_call0_v1 := (w5_of_w2 _ (by decide) (by decide) (by decide)).trans (W2_of m c _ (by decide))
  unfold b5
  rw [h]
  unfold W1
  exact KHost.v1 _ i
theorem w5_v2 (i : Fin 2048) : b5 m c main_call0_v2 (ix2 0 i) = Ideal.ofBits .f32 (lit2 i) := by
  have h : W5 m c main_call0_v2 = W1 m c main_call0_v2 := (w5_of_w2 _ (by decide) (by decide) (by decide)).trans (W2_of m c _ (by decide))
  unfold b5
  rw [h]
  unfold W1
  exact KHost.v2 _ i

/-- The third call's first four inputs. -/
def g0 (m : (r : Loc nD τ sig) → Buf (Elt Ideal) r) (c : Dev nD) : Vec Ideal S1024x8 .f32 := b5 m c main_call0_v4_0
def g1 (m : (r : Loc nD τ sig) → Buf (Elt Ideal) r) (c : Dev nD) : Vec Ideal S1024x8 .f32 := b5 m c main_call0_v4_1
def y0 (m : (r : Loc nD τ sig) → Buf (Elt Ideal) r) (c : Dev nD) : Vec Ideal S8x64 .f32 := b5 m c main_call0_v17
def y1 (m : (r : Loc nD τ sig) → Buf (Elt Ideal) r) (c : Dev nD) : Vec Ideal S8x64 .f32 := b5 m c main_call0_v19

variable (H : Agree m c V) (h : Reals V)
include H h

theorem g0_at (r : Fin 1024) (e : Fin 8) : g0 m c (ix2 r e) = gate (RRoute.lg V r) 0 e :=
  (congrFun (w5_of_w2 main_call0_v4_0 (by decide) (by decide) (by decide)) _).trans (w2_v40 H h r e)
theorem g1_at (r : Fin 1024) (e : Fin 8) : g1 m c (ix2 r e) = gate (RRoute.lg V r) 1 e :=
  (congrFun (w5_of_w2 main_call0_v4_1 (by decide) (by decide) (by decide)) _).trans (w2_v41 H h r e)
theorem y0_at (e : Fin 8) (d : Fin 64) : y0 m c (ix2 e d) = RExpert.out V (RExpert.sent V 0 e) e d := by
  refine Eq.trans ?_ (w4_v15 H h e 0 d)
  unfold y0 b5 W5
  exact KHost.v17 _ e d
theorem y1_at (e : Fin 8) (d : Fin 64) : y1 m c (ix2 e d) = RExpert.out V (RExpert.sent V 1 e) e d := by
  refine Eq.trans ?_ (w4_v15 H h e 1 d)
  unfold y1 b5 W5
  exact KHost.v19 _ e d

theorem mix0 (r : Fin 1024) (d : Fin 64) : ∑ e, g0 m c (ix2 r e) * y0 m c (ix2 e d) = RExpert.mid V 0 r d := by
  unfold RExpert.mid
  refine Finset.sum_congr (M := EReal) rfl fun e _ => ?_
  rw [g0_at H h, y0_at H h]
  rfl
theorem mix1 (r : Fin 1024) (d : Fin 64) : ∑ e, g1 m c (ix2 r e) * y1 m c (ix2 e d) = RExpert.mid V 1 r d := by
  unfold RExpert.mid
  refine Finset.sum_congr (M := EReal) rfl fun e _ => ?_
  rw [g1_at H h, y1_at H h]
  rfl

/-- The mixture. -/
theorem res0 (r : Fin 1024) (d : Fin 64) : W7 m c main_v0_0 (ix2 r d) = (fun a b : EReal => a + b) (RExpert.mid V 0 r d) (RExpert.mid V 1 r d) := by
  rw [w7_of m c main_v0_0 (by decide), W6_0, Region2.arr_7]
  unfold Region2.out7
  rw [Region2.iblk_0, Region2.iblk_1, Region2.iblk_2, Region2.iblk_3]
  rw [← mix0 H h, ← mix1 H h]
  exact congrArg₂ (fun a b : EReal => a + b) (Region2.out2_at (g0 m c) (y0 m c) r d) (Region2.out3_at (g1 m c) (y1 m c) r d)

/-- The dispatch. -/
theorem res1 (r : Fin 1024) (e : Fin 8) (k : Fin 2) : W7 m c main_v0_1 (ix3 r e k) = disp (RRoute.lg V r) (Fin.castLE (by decide) k) e := by
  unfold W7
  refine (KHost.out1 _ r e k).trans ?_
  rw [w6_of_w2 main_call0_v4_2 (by decide) (by decide) (by decide) (by decide), w6_of_w2 main_call0_v4_3 (by decide) (by decide) (by decide) (by decide)]
  rcases (by decide : ∀ k : Fin 2, k = 0 ∨ k = 1) k with rfl | rfl
  · rw [if_pos rfl]; exact w2_v42 H h r e
  · rw [if_neg (by decide)]; exact w2_v43 H h r e

/-- The balance loss. -/
theorem res2 : W7 m c main_v0_2 ix0
    = (∑ e, (∑ r, RRoute.lg V r e) * Ideal.ofBits .f32 981467136#32 * ∑ r, (ind (top (RRoute.lg V r) 0) e + ind (top (RRoute.lg V r) 1) e) * Ideal.ofBits .f32 1056964608#32) * Ideal.ofBits .f32 1006632960#32 := by
  unfold W7
  refine (KHost.out2 _).trans ?_
  rw [w6_of_w2 main_call0_v4_4 (by decide) (by decide) (by decide) (by decide), W2_4, Region0.arr_7]
  refine Eq.trans (show _ = k0_pay2 (k0_pay4 (x0 m c) (x1 m c) (x2 m c)) (k0_pay9 (x0 m c) (x1 m c) (x2 m c)) (k0_pay10 (x0 m c) (x1 m c) (x2 m c)) (ix2 0 0) from rfl) ?_
  pointwise [k0_pay2]
  have e4 : ∀ r e, k0_pay4 (x0 m c) (x1 m c) (x2 m c) (ix2 r e) = RRoute.lg V r e := fun r e => congrFun (lg_eq H r) e
  have e9 : ∀ r e, k0_pay9 (x0 m c) (x1 m c) (x2 m c) (ix2 r e) = ind (top (RRoute.lg V r) 0) e := fun r e => by
    rw [KRoute.pay9_eq, lg_eq H]
  have e10 : ∀ r e, k0_pay10 (x0 m c) (x1 m c) (x2 m c) (ix2 r e) = ind (top (RRoute.lg V r) 1) e := fun r e => by
    rw [KRoute.pay10_eq _ _ _ r (lg_ne H h r), lg_eq H]
  simp only [e4, e9, e10]
  simp only [Finset.univ_unique, Finset.sum_singleton]

end Cert.Tie
-- ==== Proof.RSample.lean ====
module

public import proofs.«01_k».proof.Proof.RExpert
public import proofs.«01_k».proof.Proof.Tables

/-! The reference's samples: the gathered rows are the rows the tables name. -/

@[expose] public section

set_option maxRecDepth 16384

noncomputable section

namespace Cert.RSample

open Idealize.ShloMosaic Idealize.ShloMosaic.TcCoe Cert.ReferenceIdeal Cert.ReferenceIdeal.Gen Cert.ReferenceIdeal.Value Cert.Route

variable (V : Valuation τ sig (Elt Ideal))

/-- The gather of whole rows, read at an index: the start index, read signed and clamped. -/
theorem gather_row (x : Vec Ideal S1024x64 .f32) (idx : IVec S920x1 32) (i : Fin 920) (c : Fin 64) (r : Fin 1024) (hr : (idx (ix2 i 0)).toNat = r.val) :
    Host.gather gather_S1024x64_S920x1_S920x64_1_0_n_n_0_1_164 x idx (ix2 i c) = x (ix2 r c) := by
  have hlt : r.val < 1024 := r.isLt
  have hi : (idx (ix2 i 0)).toInt.toNat = r.val := by
    rw [BitVec.toInt_eq_toNat_of_lt (by omega), Int.toNat_natCast, hr]
  unfold Host.gather
  congr 1
  funext a
  refine Fin.ext ?_
  show gather_S1024x64_S920x1_S920x64_1_0_n_n_0_1_164.start (ix2 i c) idx a + gather_S1024x64_S920x1_S920x64_1_0_n_n_0_1_164.batchCoord (ix2 i c) a
      + gather_S1024x64_S920x1_S920x64_1_0_n_n_0_1_164.offCoord (ix2 i c) a = _
  have h01 : a = 0 ∨ a = 1 := (by decide : ∀ a : Fin 2, a = 0 ∨ a = 1) a
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x64_S920x1_S920x64_1_0_n_n_0_1_164.startIndexMap from List.mem_singleton.mpr rfl)]
    have hsi : gather_S1024x64_S920x1_S920x64_1_0_n_n_0_1_164.siIdx (ix2 i c) ⟨List.idxOf (0 : Fin 2) gather_S1024x64_S920x1_S920x64_1_0_n_n_0_1_164.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi, hi]
    show min r.val (1024 - 1) = r.val
    omega
  · unfold GatherDims.start
    rw [dif_neg (show ¬ (1 : Fin 2) ∈ gather_S1024x64_S920x1_S920x64_1_0_n_n_0_1_164.startIndexMap from by decide), GatherDims.batchCoord_eq_zero _ _ _ List.not_mem_nil]
    show 0 + 0 + _ = c.val
    simp only [Nat.zero_add]
    rfl

/-- The row a sample position names: the choice and the row. -/
def row (i : Fin 1840) : Fin 2 × Fin 1024 :=
  if h : i.val < 920 then (0, ⟨(lit1t i.val).toNat, (Tables.source_marked _ h).1⟩)
  else (1, ⟨(lit2t (i.val - 920)).toNat, (Tables.target_marked _ (by omega)).1⟩)

theorem c_at (i : Fin 920) : res_main_c V (ix1 i) = lit1t i.val := by
  unfold res_main_c
  show lit1 (S920.rowMajor (ix1 i)) = _
  rw [show S920.rowMajor (ix1 i) = i from Fin.ext (Shape.rowMajor_val_one _)]
theorem c1_at (i : Fin 920) : res_main_c_1 V (ix1 i) = lit2t i.val := by
  unfold res_main_c_1
  show lit2 (S920.rowMajor (ix1 i)) = _
  rw [show S920.rowMajor (ix1 i) = i from Fin.ext (Shape.rowMajor_val_one _)]

theorem v64_eq (i : Fin 1840) (c : Fin 64) : res_main_v64 V (ix2 i c) = RExpert.mid V (row i).1 (row i).2 c := by
  pointwise [res_main_v64]
  unfold row
  by_cases h : i.val < 920
  · rw [dif_pos h, dif_pos h, gather_row _ _ ⟨i.val, h⟩ c ⟨(lit1t i.val).toNat, (Tables.source_marked _ h).1⟩ ?_]
    · pointwise
      exact RExpert.v48_eq V 0 _ c
    · pointwise
      rw [c_at]
  · have h' : i.val - 920 < 920 := by omega
    rw [dif_neg h, dif_neg h, gather_row _ _ ⟨i.val - 920, h'⟩ c ⟨(lit2t (i.val - 920)).toNat, (Tables.target_marked _ h').1⟩ ?_]
    · pointwise
      exact RExpert.v48_eq V 1 _ c
    · pointwise
      rw [c1_at]

end Cert.RSample
-- ==== Proof.Masks.lean ====
module

public import proofs.«01_k».proof.Proof.RSample
public import proofs.«01_k».proof.Proof.Mmd
public import proofs.«01_k».proof.Proof.KMmd
public import proofs.«01_k».proof.Proof.KHost

/-! The kernel's marks over all rows count the same rows as the reference's sample. -/

@[expose] public section

set_option maxRecDepth 16384

noncomputable section

namespace Cert.Masks

open Idealize.ShloMosaic Idealize.ShloMosaic.TcCoe Cert.Tables Cert.Mmd Cert.KernelIdeal Cert.KernelIdeal.Region2

/-- Whether the row at a position is in the sample. -/
def flag (i : ℕ) : Prop := lit1t i = 0x3F800000#32
instance (i : ℕ) : Decidable (flag i) := inferInstanceAs (Decidable (_ = _))

/-- The mark of a row. -/
def mark (R : Fin 2 × Fin 1024) : ℝ := if flag (1024 * R.1.val + R.2.val) then 1 else 0
/-- The signed mark of a row. -/
def signed (R : Fin 2 × Fin 1024) : ℝ := if R.1 = 0 then mark R else -mark R

/-- A sum over one half of the sample is a marked sum over the rows. -/
theorem half (f : ℕ → ℕ) (p : ℕ → Prop) [DecidablePred p] (hf : freshB f 920 0 = true) (hp : ∀ i < 920, f i < 1024 ∧ p (f i))
    (hc : Nat.count p 1024 = 920) (g : Fin 1024 → ℝ) :
    ∑ i : Fin 920, g ⟨f i.val, (hp i.val i.isLt).1⟩ = ∑ r : Fin 1024, g r * (if p r.val then 1 else 0) := by
  have h := sum_table f p 920 1024 hf hp hc (fun n => if h : n < 1024 then g ⟨n, h⟩ else 0)
  rw [Finset.sum_range, Finset.sum_range] at h
  refine Eq.trans (Finset.sum_congr rfl fun i _ => ?_) (h.trans (Finset.sum_congr rfl fun r _ => ?_))
  · rw [dif_pos (hp i.val i.isLt).1]
  · rw [dif_pos r.isLt, mul_ite, mul_one, mul_zero]

theorem source (g : Fin 1024 → ℝ) : ∑ i : Fin 920, g (RSample.row ⟨i.val, by omega⟩).2 = ∑ r : Fin 1024, g r * mark (0, r) := by
  refine Eq.trans (Finset.sum_congr rfl fun i _ => ?_) ((half _ flag source_fresh source_marked source_count g).trans (Finset.sum_congr rfl fun r _ => ?_))
  · unfold RSample.row
    rw [dif_pos (show (i.val : ℕ) < 920 from i.isLt)]
  · by_cases hr : flag r.val <;> simp [mark, hr]

theorem target (g : Fin 1024 → ℝ) : ∑ i : Fin 920, g (RSample.row ⟨920 + i.val, by omega⟩).2 = ∑ r : Fin 1024, g r * mark (1, r) := by
  refine Eq.trans (Finset.sum_congr rfl fun i _ => ?_) ((half _ (fun r => flag (1024 + r)) target_fresh target_marked target_count g).trans (Finset.sum_congr rfl fun r _ => ?_))
  · unfold RSample.row
    rw [dif_neg (show ¬ 920 + i.val < 920 by omega)]
    congr 2
    simp
  · by_cases hr : flag (1024 + r.val) <;> simp [mark, hr]

theorem row_source (i : Fin 920) : (RSample.row ⟨i.val, by omega⟩).1 = 0 := by
  unfold RSample.row
  rw [dif_pos (show (i.val : ℕ) < 920 from i.isLt)]
theorem row_target (i : Fin 920) : (RSample.row ⟨920 + i.val, by omega⟩).1 = 1 := by
  unfold RSample.row
  rw [dif_neg (show ¬ 920 + i.val < 920 by omega)]

/-- A sum over the sample is a marked sum over all rows. -/
theorem sum_mark (g : Fin 2 × Fin 1024 → ℝ) : ∑ i, g (RSample.row i) = ∑ R, g R * mark R := by
  rw [sum_halves, Fintype.sum_prod_type, Fin.sum_univ_two, ← source (fun r => g (0, r)), ← target (fun r => g (1, r))]
  refine congrArg₂ (· + ·) (Finset.sum_congr rfl fun i _ => ?_) (Finset.sum_congr rfl fun i _ => ?_)
  · exact congrArg g (Prod.ext (row_source i) rfl)
  · exact congrArg g (Prod.ext (row_target i) rfl)

/-- The same with the halves' signs. -/
theorem sum_signed (g : Fin 2 × Fin 1024 → ℝ) : ∑ i, sign i * g (RSample.row i) = ∑ R, g R * signed R := by
  have h : ∀ i, sign i * g (RSample.row i) = (fun R : Fin 2 × Fin 1024 => (if R.1 = 0 then 1 else -1) * g R) (RSample.row i) := by
    intro i
    refine congrArg (fun z => z * g (RSample.row i)) ?_
    unfold sign RSample.row
    by_cases hi : i.val < 920
    · rw [dif_pos hi, if_pos hi]; exact (if_pos rfl).symm
    · rw [dif_neg hi, if_neg hi]; exact (if_neg (show ¬ (1 : Fin 2) = 0 by decide)).symm
  rw [Finset.sum_congr rfl fun i _ => h i, sum_mark (fun R : Fin 2 × Fin 1024 => (if R.1 = 0 then 1 else -1) * g R)]
  refine Finset.sum_congr rfl fun R _ => ?_
  unfold signed
  split <;> ring

theorem bits_one : Ideal.ofBits .f32 0x3F800000#32 = ((1 : ℝ) : EReal) := by
  simp [Ideal.ofBits, Ideal.ieee]; rw [← EReal.coe_mul]; norm_num
theorem bits_neg : Ideal.ofBits .f32 0xBF800000#32 = ((-1 : ℝ) : EReal) := by
  simp [Ideal.ofBits, Ideal.ieee]; rw [← EReal.coe_mul]; norm_num
theorem bits_zero : Ideal.ofBits .f32 0#32 = ((0 : ℝ) : EReal) := by
  simp [Ideal.ofBits, Ideal.ieee]
theorem bits_neg_zero : Ideal.ofBits .f32 0x80000000#32 = ((0 : ℝ) : EReal) := by
  simp [Ideal.ofBits, Ideal.ieee]

theorem mark_one (k : Fin 2) (r : Fin 1024) (h : lit1t (1024 * k.val + r.val) = 0x3F800000#32) : mark (k, r) = 1 := if_pos h
theorem mark_zero (k : Fin 2) (r : Fin 1024) (h : lit1t (1024 * k.val + r.val) = 0#32) : mark (k, r) = 0 :=
  if_neg fun h1 => absurd (h1.symm.trans h) (by decide)

theorem mark_bits (R : Fin 2 × Fin 1024) : Ideal.ofBits .f32 (lit1 (pos R)) = ((mark R : ℝ) : EReal) := by
  obtain ⟨k, r⟩ := R
  show Ideal.ofBits .f32 (lit1t (1024 * k.val + r.val)) = _
  have h : lit1t (1024 * k.val + r.val) = 0x3F800000#32 ∨ lit1t (1024 * k.val + r.val) = 0#32 := by
    rcases (by decide : ∀ k : Fin 2, k = 0 ∨ k = 1) k with rfl | rfl
    · simpa using (marks_source r.val r.isLt).1
    · rcases marks_target r.val r.isLt with h | h
      · exact Or.inl (by simpa using h.1)
      · exact Or.inr (by simpa using h.1)
  rcases h with h | h
  · rw [mark_one k r h, h, bits_one]
  · rw [mark_zero k r h, h, bits_zero]

theorem signed_source (r : Fin 1024) : signed (0, r) = mark (0, r) := if_pos rfl
theorem signed_target (r : Fin 1024) : signed (1, r) = -mark (1, r) := if_neg (show ¬ (1 : Fin 2) = 0 by decide)

theorem signed_bits (R : Fin 2 × Fin 1024) : Ideal.ofBits .f32 (lit2 (pos R)) = ((signed R : ℝ) : EReal) := by
  obtain ⟨k, r⟩ := R
  show Ideal.ofBits .f32 (lit2t (1024 * k.val + r.val)) = _
  rcases (by decide : ∀ k : Fin 2, k = 0 ∨ k = 1) k with rfl | rfl
  · rw [signed_source, ← mark_bits]
    have h : lit2t (1024 * (0 : Fin 2).val + r.val) = lit1t (1024 * (0 : Fin 2).val + r.val) := by simpa using (marks_source r.val r.isLt).2
    exact congrArg _ h
  · have e : 1024 * (1 : Fin 2).val + r.val = 1024 + r.val := by simp
    rw [signed_target]
    rcases marks_target r.val r.isLt with ⟨h1, h2⟩ | ⟨h1, h2⟩
    · rw [mark_one 1 r (by rw [e, h1]), e, h2, bits_neg]
    · rw [mark_zero 1 r (by rw [e, h1]), e, h2, bits_neg_zero, neg_zero]

end Cert.Masks
-- ==== Proof.KMmdOut.lean ====
module

public import proofs.«01_k».proof.Proof.KMmd

/-! The third call's second result over real rows. -/

@[expose] public section

set_option maxRecDepth 16384

noncomputable section

namespace Cert.KernelIdeal.Region2

open Idealize.ShloMosaic Idealize.ShloMosaic.TcCoe Cert.KernelIdeal Cert.KernelIdeal.Gen Cert.Mmd

variable (V : (c : Dev nD) → (b : Ref sig .tc) → Buf (Elt Ideal) ((c : Thread nD τ).loc b)) (c : Dev nD)

/-- A function of the numbers below 2048, extended by zero. -/
def ext (g : Fin 2048 → EReal) (q : ℕ) : EReal := if h : q < 2048 then g ⟨q, h⟩ else 0

theorem sum_ext (g : Fin 2048 → EReal) : ∑ t ∈ Finset.range 8, ∑ r : Fin 256, ext g (256 * t + r.val) = ∑ i, g i := by
  rw [Finset.sum_range, ← Fintype.sum_prod_type']
  refine Eq.trans ?_ (Equiv.sum_comp (finProdFinEquiv (m := 8) (n := 256)) g)
  refine Finset.sum_congr rfl fun p _ => ?_
  have h1 := p.1.isLt
  have h2 := p.2.isLt
  unfold ext
  rw [dif_pos (by omega)]
  refine congrArg g (Fin.ext ?_)
  show 256 * p.1.val + p.2.val = p.2.val + 256 * p.1.val
  omega

/-- The signed sum's value. -/
theorem parts_eq (x0 x1 : Vec Ideal S1024x8 .f32) (x2 x3 : Vec Ideal S8x64 .f32) (x4 x6 : Vec Ideal S2048x1 .f32) (x5 : Vec Ideal S1x2048 .f32)
    (x : Fin 2 × Fin 1024 → Fin 64 → ℝ)
    (h0 : ∀ r d, ∑ e, x0 (ix2 r e) * x2 (ix2 e d) = ((x (0, r) d : ℝ) : EReal)) (h1 : ∀ r d, ∑ e, x1 (ix2 r e) * x3 (ix2 e d) = ((x (1, r) d : ℝ) : EReal))
    (m s : Fin 2 × Fin 1024 → ℝ) (h6 : ∀ R, x6 (ix2 (pos R) 0) = ((m R : ℝ) : EReal))
    (h4 : ∀ R, x4 (ix2 (pos R) 0) = ((s R : ℝ) : EReal)) (h5 : ∀ R, x5 (ix2 0 (pos R)) = ((s R : ℝ) : EReal))
    (ρ : Fin 1840 → Fin 2 × Fin 1024) (hm : ∀ g : Fin 2 × Fin 1024 → ℝ, ∑ i, g (ρ i) = ∑ R, g R * m R) :
    ∑ i, part (aOf (F := Ideal) x0 x1 x2 x3) (btOf (F := Ideal) x0 x1 x2 x3) (coefOf (F := Ideal) x0 x1 x2 x3 x6) x5 x4 i
      = ((∑ R, (∑ C, five (lsq x R C) (width x ρ) * s C) * s R : ℝ) : EReal) := by
  rw [sum_pos, Balance.coe_sum]
  refine Finset.sum_congr rfl fun R _ => ?_
  unfold part
  rw [h4, EReal.coe_mul, sum_pos, Balance.coe_sum]
  refine congrArg (fun z => z * (s R : EReal)) ?_
  refine Finset.sum_congr rfl fun C _ => ?_
  rw [h5, EReal.coe_mul]
  refine congrArg (fun z => z * (s C : EReal)) ?_
  have hl : ∑ d : Fin 128, aOf (F := Ideal) x0 x1 x2 x3 (ix2 (pos R) d) * btOf (F := Ideal) x0 x1 x2 x3 (ix2 (pos C) d) = ((lsq x R C : ℝ) : EReal) := by
    rw [← rows_dot, Balance.coe_sum]
    refine Finset.sum_congr rfl fun d _ => ?_
    rw [a_at _ _ _ _ x h0 h1, b_at _ _ _ _ x h0 h1, EReal.coe_mul]
  rw [hl, coef_at _ _ _ _ x h0 h1 _ m h6 ρ hm]
  exact kernel_five _ _ (lsq_nonneg x R C)

/-- The call's second result. -/
theorem loss_eq (a : Ideal .f32) (S : ℝ) (h : a = (S : EReal)) :
    k2_pay1 (F := Ideal) a (ix2 0 0) = ((-S * (1 / 846400) : ℝ) : EReal) := by
  pointwise [k2_pay1]
  rw [h, bits_846400, Ideal.div_coe (by norm_num), ← EReal.coe_zero, ← EReal.coe_sub, ← EReal.coe_mul]
  refine congrArg _ ?_
  ring

end Cert.KernelIdeal.Region2
-- ==== Proof.KMmdAcc.lean ====
module

public import proofs.«01_k».proof.Proof.KMmdOut

/-! The third call's accumulator, as one sum over the rows. -/

@[expose] public section

set_option maxRecDepth 16384

noncomputable section

namespace Cert.KernelIdeal.Region2

open Idealize.ShloMosaic Idealize.ShloMosaic.TcCoe Cert.KernelIdeal Cert.KernelIdeal.Gen Cert.Mmd

variable (V : (c : Dev nD) → (b : Ref sig .tc) → Buf (Elt Ideal) ((c : Thread nD τ).loc b)) (c : Dev nD)

/-- The accumulator after `n` points. -/
theorem acc_at (n : ℕ) (hn : n ≤ 8) : accN (F := Ideal) V c n
    = ∑ t ∈ Finset.range n, ∑ r : Fin 256, ext (part (aV V c) (btV V c) (coefV V c) (V c main_call0_v2) (V c main_call0_v1)) (256 * t + r.val) := by
  induction n with
  | zero => exact Ideal.ofBits_zero_f32
  | succ n ih =>
    have hlt : n < cfg2.N := hn
    have e := accN_succ V c ⟨n, hlt⟩
    rw [step_at, iblk_4, iblk_5] at e
    rw [Finset.sum_range_succ, ← ih (by omega)]
    refine e.trans ?_
    generalize accN (F := Ideal) V c n = z
    refine congrArg (z + ·) (Finset.sum_congr rfl fun r _ => ?_)
    have h2 := r.isLt
    unfold ext
    rw [dif_pos (by omega)]

end Cert.KernelIdeal.Region2
-- ==== Proof.RMmd.lean ====
module

public import proofs.«01_k».proof.Proof.RSample
public import proofs.«01_k».proof.Proof.Mmd

/-! The reference's fourth result over real rows. -/

@[expose] public section

set_option maxRecDepth 16384

noncomputable section

namespace Cert.RMmd

open Idealize.ShloMosaic Idealize.ShloMosaic.TcCoe Cert.ReferenceIdeal Cert.ReferenceIdeal.Gen Cert.ReferenceIdeal.Value Cert.Mmd

variable (V : Valuation τ sig (Elt Ideal)) (x : Fin 2 × Fin 1024 → Fin 64 → ℝ) (hx : ∀ k r d, RExpert.mid V k r d = ((x (k, r) d : ℝ) : EReal))

include hx

theorem v71_eq (i j : Fin 1840) : res_main_v71 V (ix2 i j) = ((lsq x (RSample.row i) (RSample.row j) : ℝ) : EReal) := by
  pointwise [res_main_v71, res_main_v69]
  simp only [RSample.v64_eq, hx, ← EReal.coe_sub, ← EReal.coe_mul]
  exact (Balance.coe_sum _ _).symm

theorem v74_eq : res_main_v74 V ix0 = ((width x RSample.row : ℝ) : EReal) := by
  have h : res_main_v74 V ix0 = Ideal.div (Ideal.div (∑ i : Fin 1840, ∑ j : Fin 1840, res_main_v71 V (ix2 i j)) (Ideal.ofBits .f32 1246660416#32)) (Ideal.ofBits .f32 1082130432#32) := by
    pointwise [res_main_v74]
  rw [h]
  simp only [v71_eq V x hx, ← Balance.coe_sum]
  rw [bits_pairs, bits_4, Ideal.div_coe (by norm_num), Ideal.div_coe (by norm_num), ← EReal.coe_mul, ← EReal.coe_mul]
  rfl

theorem v105_eq (i j : Fin 1840) : res_main_v105 V (ix2 i j)
    = ((if width x RSample.row = 0 then 0 else five (lsq x (RSample.row i) (RSample.row j)) (width x RSample.row) : ℝ) : EReal) := by
  rw [← reference_five _ _ (lsq_nonneg x _ _), ← v74_eq V x hx, ← v71_eq V x hx]
  pointwise [res_main_v105]
  rfl

/-- The result's term. -/
def term (V : Valuation τ sig (Elt Ideal)) : Vec Ideal S_ .f32 :=
  addf (constant S_ .f32 0x00000000#32) (mulf (constant S_ .f32 0xBF800000#32) (Host.divf (Host.reduceAdd (subf (subf (addf (extractStridedSlice S920x920 ![0, 0] (res_main_v105 V) slices_S1840x1840_S920x920_0_0) (extractStridedSlice S920x920 ![920, 920] (res_main_v105 V) slices_S1840x1840_S920x920_920_920)) (extractStridedSlice S920x920 ![0, 920] (res_main_v105 V) slices_S1840x1840_S920x920_0_920)) (extractStridedSlice S920x920 ![920, 0] (res_main_v105 V) slices_S1840x1840_S920x920_920_0)) (constant S_ .f32 0x00000000#32) reducesTo_S920x920_S_d0_1 h_S_) (constant S_ .f32 0x494EA400#32)))

theorem loss_eq (s : Fin 2 × Fin 1024 → ℝ) (hs : ∀ g : Fin 2 × Fin 1024 → ℝ, ∑ i, sign i * g (RSample.row i) = ∑ R, g R * s R) :
    term V ix0 = ((-(∑ R, (∑ C, five (lsq x R C) (width x RSample.row) * s C) * s R) * (1 / 846400) : ℝ) : EReal) := by
  rw [signed_five x RSample.row sign s hs sum_sign, ← sum_blocks fun i j => if width x RSample.row = 0 then 0 else five (lsq x (RSample.row i) (RSample.row j)) (width x RSample.row)]
  pointwise [term]
  simp only [v105_eq V x hx, ← EReal.coe_add, ← EReal.coe_sub, ← Balance.coe_sum]
  rw [bits_846400, bits_neg1, Ideal.div_coe (by norm_num), ← EReal.coe_mul, ← EReal.coe_mul]
  refine congrArg _ ?_
  ring

end Cert.RMmd
-- ==== Proof.RefOut.lean ====
module

public import proofs.«01_k».proof.Proof.RExpert
public import proofs.«01_k».proof.Proof.RMmd

/-! The reference's second and third results. -/

@[expose] public section

set_option maxRecDepth 16384

noncomputable section

namespace Cert.RefOut

open Idealize.ShloMosaic Idealize.ShloMosaic.TcCoe Cert.ReferenceIdeal Cert.ReferenceIdeal.Gen Cert.ReferenceIdeal.Value Cert.Route

variable (V : Valuation τ sig (Elt Ideal))

/-- The dispatch's text. -/
def dispatch : Vec Ideal S1024x8x2 .f32 :=
  uitofp (F := Ideal) .f32 (cmpf (F := Ideal) (φ := .f32) .une (res_main_v22 V : FVec Ideal S1024x8x2 .f32) (broadcastInDim S1024x8x2 ![] bcast_S_S1024x8x2 (constant S_ .f32 0x00000000#32)))

theorem dispatch_at (r : Fin 1024) (e : Fin 8) (k : Fin 2) : dispatch V (ix3 r e k) = disp (RRoute.lg V r) (Fin.castLE (by decide) k) e := by
  show FloatOps.uitofp (F := Ideal) .f32 (BitVec.ofBool (decide ((res_main_v22 V (ix3 r e k) : EReal) ≠ Ideal.ofBits .f32 0x00000000#32))) = _
  rw [RRoute.v22_eq, Ideal.ofBits_zero_f32]
  rfl

/-- The balance loss's text. -/
def balance : Vec Ideal S_ .f32 :=
  mulf (Host.divf (Host.reduceAdd (mulf (broadcastInDim S1024x8 ![0, 1] bcast_S1x8_S1024x8_0_1 (broadcastInDim S1x8 ![1] bcast_S8_S1x8_1 (Host.divf (Host.reduceAdd (res_main_v2 V) (constant S_ .f32 0x00000000#32) reducesTo_S1024x8_S8_d0 h_S_) (broadcastInDim S8 ![] bcast_S_S8 (constant S_ .f32 0x44800000#32))))) (Host.divf (Host.reduceAdd (res_main_v3 V) (constant S_ .f32 0x00000000#32) reducesTo_S1024x2x8_S1024x8_d1 h_S_) (broadcastInDim S1024x8 ![] bcast_S_S1024x8 (constant S_ .f32 0x40000000#32)))) (constant S_ .f32 0x00000000#32) reducesTo_S1024x8_S_d0_1 h_S_) (constant S_ .f32 0x46000000#32)) (constant S_ .f32 0x42800000#32)

theorem balance_at : balance V ix0 = Ideal.div (∑ r, ∑ e, Ideal.div (∑ x, RRoute.lg V x e) (Ideal.ofBits .f32 1149239296#32) * Ideal.div (ind (top (RRoute.lg V r) 0) e + ind (top (RRoute.lg V r) 1) e) (Ideal.ofBits .f32 1073741824#32)) (Ideal.ofBits .f32 1174405120#32) * Ideal.ofBits .f32 1115684864#32 := by
  pointwise [balance]
  simp only [RRoute.v3_eq, Fin.sum_univ_two]
  rfl

end Cert.RefOut
-- ==== Proof.TieMmd.lean ====
module

public import proofs.«01_k».proof.Proof.TieOut
public import proofs.«01_k».proof.Proof.Masks
public import proofs.«01_k».proof.Proof.KMmdAcc
public import proofs.«01_k».proof.Proof.RefOut

/-! The kernel's fourth result is the reference's. -/

@[expose] public section

set_option maxRecDepth 16384

noncomputable section

namespace Cert.Tie

open Idealize.ShloMosaic Idealize.ShloMosaic.TcCoe Cert.KernelIdeal Cert.KernelIdeal.Gen Cert.KernelIdeal.Run Cert.Route Cert.RealPart Cert.Mmd

variable {m : (r : Loc nD τ sig) → Buf (Elt Ideal) r} {c : Dev nD} {V : Valuation Cert.ReferenceIdeal.τ Cert.ReferenceIdeal.sig (Elt Ideal)}

/-- The accumulator at the end. -/
theorem acc_end : Region2.accN (F := Ideal) (b5 m) c cfg2.N
    = ∑ i, Region2.part (Region2.aV (b5 m) c) (Region2.btV (b5 m) c) (Region2.coefV (b5 m) c) (b5 m c main_call0_v2) (b5 m c main_call0_v1) i :=
  ((congrArg (Region2.accN (F := Ideal) (b5 m) c) (show cfg2.N = 8 from rfl)).trans (Region2.acc_at (b5 m) c 8 (le_refl 8))).trans (Region2.sum_ext _)

theorem aV_eq : Region2.aV (b5 m) c = Region2.aOf (F := Ideal) (g0 m c) (g1 m c) (y0 m c) (y1 m c) := by
  unfold Region2.aV g0 g1 y0 y1
  rw [Region2.iblk_0, Region2.iblk_1, Region2.iblk_2, Region2.iblk_3]
theorem btV_eq : Region2.btV (b5 m) c = Region2.btOf (F := Ideal) (g0 m c) (g1 m c) (y0 m c) (y1 m c) := by
  unfold Region2.btV g0 g1 y0 y1
  rw [Region2.iblk_0, Region2.iblk_1, Region2.iblk_2, Region2.iblk_3]
theorem coefV_eq : Region2.coefV (b5 m) c = Region2.coefOf (F := Ideal) (g0 m c) (g1 m c) (y0 m c) (y1 m c) (b5 m c main_call0_v0) := by
  unfold Region2.coefV g0 g1 y0 y1
  rw [Region2.iblk_0, Region2.iblk_1, Region2.iblk_2, Region2.iblk_3, Region2.iblk_6]

variable (H : Agree m c V) (h : Reals V)
include H h

/-- The loss between the two samples. -/
theorem res3 : W7 m c main_v0_3 ix0 = RMmd.term V ix0 := by
  choose x hx using fun (R : Fin 2 × Fin 1024) (d : Fin 64) => mid_real h R.1 R.2 d
  have e := RMmd.loss_eq V x (fun k r d => hx (k, r) d) Masks.signed Masks.sum_signed
  rw [e]
  unfold W7
  refine (KHost.out3 _).trans ?_
  rw [W6_1, Region2.arr_8]
  refine Region2.loss_eq _ _ ?_
  rw [acc_end, aV_eq, btV_eq, coefV_eq]
  exact Region2.parts_eq (g0 m c) (g1 m c) (y0 m c) (y1 m c) _ _ _ x (fun r d => (mix0 H h r d).trans (hx (0, r) d)) (fun r d => (mix1 H h r d).trans (hx (1, r) d))
    Masks.mark Masks.signed (fun R => (w5_v0 _).trans (Masks.mark_bits R)) (fun R => (w5_v1 _).trans (Masks.signed_bits R))
    (fun R => (w5_v2 _).trans (Masks.signed_bits R)) RSample.row Masks.sum_mark

/-- The balance loss. -/
theorem res2' : W7 m c main_v0_2 ix0 = RefOut.balance V ix0 := by
  choose l hl using fun r e => lg_real h r e
  choose p hp using fun r e => ind_real (top (RRoute.lg V r) 0) e
  choose q hq using fun r e => ind_real (top (RRoute.lg V r) 1) e
  rw [res2 H h, RefOut.balance_at]
  simp only [hl, hp, hq]
  exact Balance.balance l p q

end Cert.Tie
-- ==== Proof.Finite.lean ====
module

public import proofs.«01_k».proof.Pre_finite
public import Idealize.ShloMosaic.Lib.ReduceAll
public import Idealize.ShloMosaic.Lib.Pointwise
public import Idealize.ShloMosaic.Lib.Affine

/-! The precondition, entry by entry: every input entry is a real number. -/

@[expose] public section

set_option maxRecDepth 16384

noncomputable section

namespace Cert.Pre_finite

open Idealize.ShloMosaic

/-- The shape facts of the precondition. -/
theorem facts : Facts := by
  constructor <;> decide

/-- The conjunct of one input. -/
theorem real_of {S : Shape} {axes : List (Fin S.rank)} (x : FVec Ideal S .f32) (b : S_.BroadcastsInDim S (![] : Fin 0 → Fin S.rank))
    (h : S.ReducesTo axes S_) (hu : 0 < S_.numel) (j : S_.Idx)
    (e : Host.reduce IntOp.andi (cmpf .olt (Host.absf x) (broadcastInDim S ![] b (constant S_ .f32 0x7F800000#32))) (constantI S_ 1 1#1) h hu j = 1#1)
    (i : S.Idx) : ∃ r : ℝ, x i = (r : EReal) := by
  have e1 := Host.reduce_andi_all _ _ h hu j e i
  have e2 : max (x i) (-(x i)) < Ideal.ofBits .f32 0x7F800000#32 := by
    by_contra hn
    have : cmpf .olt (Host.absf x) (broadcastInDim S ![] b (constant (F := Ideal) S_ .f32 0x7F800000#32)) i = 0#1 := by
      show BitVec.ofBool (decide (max (x i) (-(x i)) < Ideal.ofBits .f32 0x7F800000#32)) = 0#1
      rw [decide_eq_false hn]; rfl
    rw [this] at e1
    exact absurd e1 (by decide)
  have e3 : Ideal.ofBits .f32 0x7F800000#32 = (⊤ : EReal) := by simp [Ideal.ofBits, Ideal.ieee]
  rw [e3, max_lt_iff] at e2
  refine ⟨(x i).toReal, (EReal.coe_toReal (ne_of_lt e2.1) fun hb => ?_).symm⟩
  rw [hb] at e2
  exact absurd e2.2 (by simp)

variable [Facts]

/-- Every entry of every input is a real number. -/
theorem all_real (x0 : FVec Ideal S1024x1024 .f32) (x1 : FVec Ideal S8x1024 .f32) (x2 : FVec Ideal S8x500x1024 .f32) (x3 : FVec Ideal S8x500 .f32)
    (x4 : FVec Ideal S8x500x500 .f32) (x5 : FVec Ideal S8x500 .f32) (x6 : FVec Ideal S8x2000x500 .f32) (x7 : FVec Ideal S8x2000 .f32)
    (x8 : FVec Ideal S8x64x2000 .f32) (x9 : FVec Ideal S8x64 .f32) (e : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal))
      ∧ (∀ i, ∃ r : ℝ, x8 i = (r : EReal)) ∧ (∀ i, ∃ r : ℝ, x9 i = (r : EReal)) := by
  have e1 := congrFun e ix0
  unfold fn fn_part1 fn_part2 at e1
  dsimp only [andi] at e1
  simp only [IntOp.andi_eq_one] at e1
  obtain ⟨⟨⟨⟨⟨⟨⟨⟨⟨⟨-, h0⟩, h1⟩, h2⟩, h3⟩, h4⟩, h5⟩, h6⟩, h7⟩, h8⟩, h9⟩ := e1
  exact ⟨real_of _ _ _ _ _ h0, real_of _ _ _ _ _ h1, real_of _ _ _ _ _ h2, real_of _ _ _ _ _ h3, real_of _ _ _ _ _ h4, real_of _ _ _ _ _ h5,
    real_of _ _ _ _ _ h6, real_of _ _ _ _ _ h7, real_of _ _ _ _ _ h8, real_of _ _ _ _ _ h9⟩

end Cert.Pre_finite
-- ==== Proof.Value.lean ====
module

public import proofs.«01_k».proof.Defs
public import proofs.«01_k».proof.Proof.TieMmd
public import proofs.«01_k».proof.Proof.Finite

/-! From real inputs the kernel leaves the reference's results. -/

@[expose] public section

set_option maxRecDepth 16384

noncomputable section

namespace Cert.ValueClaim

open Idealize.ShloMosaic Idealize.ShloMosaic.TcCoe Idealize.SL.Sem Cert.RealPart Cert.Tie

theorem eta0 {s : Shape} (h : s = ⟨0, ![]⟩) (i j : s.Idx) : i = j := by
  subst h
  exact funext fun d => d.elim0

variable (m : (r : Loc Cert.KernelIdeal.nD Cert.KernelIdeal.τ Cert.KernelIdeal.sig) → Buf (Elt Ideal) r)
  (m' : (r : Loc Cert.ReferenceIdeal.nD Cert.ReferenceIdeal.τ Cert.ReferenceIdeal.sig) → Buf (Elt Ideal) r) (c : Dev Cert.KernelIdeal.nD)

/-- The reference's inputs. -/
abbrev ins : Valuation Cert.ReferenceIdeal.τ Cert.ReferenceIdeal.sig (Elt Ideal) := StableHlo.launchContents m' c

variable {m m' c} (H : Agree m c (ins m' c)) (h : Reals (ins m' c))
include H h

theorem eq0 : Host.dotGeneral (F := Ideal) (φ₁ := .f32) (φ₂ := .f32) Cert.ReferenceIdeal.dot_S1024x8x2_S8x2x64_S1024x64_21_10_0_2_n_n none
    (Cert.ReferenceIdeal.Value.res_main_v22 (ins m' c)) (Cert.ReferenceIdeal.Value.res_main_v45 (ins m' c)) = Cert.KernelIdeal.Run.W7 m c Cert.KernelIdeal.main_v0_0 := by
  funext i
  have e : i = ix2 (i 0) (i 1) := funext fun d => by fin_cases d <;> rfl
  rw [e]
  exact (RExpert.v49_eq (ins m' c) (i 0) (i 1)).trans (res0 H h (i 0) (i 1)).symm

theorem eq1 : RefOut.dispatch (ins m' c) = Cert.KernelIdeal.Run.W7 m c Cert.KernelIdeal.main_v0_1 := by
  funext i
  have e : i = ix3 (i 0) (i 1) (i 2) := funext fun d => by fin_cases d <;> rfl
  rw [e]
  exact (RefOut.dispatch_at (ins m' c) (i 0) (i 1) (i 2)).trans (res1 H h (i 0) (i 1) (i 2)).symm

theorem eq2 : RefOut.balance (ins m' c) = Cert.KernelIdeal.Run.W7 m c Cert.KernelIdeal.main_v0_2 := by
  funext i
  rw [eta0 rfl i ix0]
  exact (res2' H h).symm

theorem eq3 : RMmd.term (ins m' c) = Cert.KernelIdeal.Run.W7 m c Cert.KernelIdeal.main_v0_3 := by
  funext i
  rw [eta0 rfl i ix0]
  exact (res3 H h).symm

end Cert.ValueClaim

namespace Cert.ValueClaim

open Idealize.ShloMosaic Idealize.ShloMosaic.TcCoe Idealize.SL.Sem Cert.RealPart Cert.Tie

/-- The value claim. -/
theorem value [Cert.KernelIdeal.Facts] [Cert.ReferenceIdeal.Facts] [Cert.Pre_finite.Facts] : Cert.algebraic_KernelIdeal_ReferenceIdeal_pre_finite := by
  intro m g m' g' hpre hin
  have H : ∀ c, Agree m c (ins m' c) := fun c => by
    obtain ⟨e0, e1, e2, e3, e4, e5, e6, e7, e8, e9⟩ := hin c
    exact ⟨fun i j => congrFun e0 (ix2 i j), fun i j => congrFun e1 (ix2 i j), fun i j k => congrFun e2 (ix3 i j k), fun i j => congrFun e3 (ix2 i j), fun i j k => congrFun e4 (ix3 i j k),
      fun i j => congrFun e5 (ix2 i j), fun i j k => congrFun e6 (ix3 i j k), fun i j => congrFun e7 (ix2 i j), fun i j k => congrFun e8 (ix3 i j k), fun i j => congrFun e9 (ix2 i j)⟩
  have R : ∀ c, Reals (ins m' c) := fun c => by
    obtain ⟨r0, r1, r2, r3, r4, r5, r6, r7, r8, r9⟩ := Cert.Pre_finite.all_real _ _ _ _ _ _ _ _ _ _ (hpre c)
    have A := H c
    refine ⟨fun i j => ?_, fun i j => ?_, fun i j k => ?_, fun i j => ?_, fun i j k => ?_, fun i j => ?_, fun i j k => ?_, fun i j => ?_, fun i j k => ?_, fun i j => ?_⟩
    · rw [A.a0]; exact r0 (ix2 i j)
    · rw [A.a1]; exact r1 (ix2 i j)
    · rw [A.a2]; exact r2 (ix3 i j k)
    · rw [A.a3]; exact r3 (ix2 i j)
    · rw [A.a4]; exact r4 (ix3 i j k)
    · rw [A.a5]; exact r5 (ix2 i j)
    · rw [A.a6]; exact r6 (ix3 i j k)
    · rw [A.a7]; exact r7 (ix2 i j)
    · rw [A.a8]; exact r8 (ix3 i j k)
    · rw [A.a9]; exact r9 (ix2 i j)
  refine ⟨fun c => Cert.KernelIdeal.Run.W7 m c Cert.KernelIdeal.main_v0_0, fun c => Cert.KernelIdeal.Run.W7 m c Cert.KernelIdeal.main_v0_1,
    fun c => Cert.KernelIdeal.Run.W7 m c Cert.KernelIdeal.main_v0_2, fun c => Cert.KernelIdeal.Run.W7 m c Cert.KernelIdeal.main_v0_3, ?_, ?_⟩
  · exact (θ_run Cert.KernelIdeal.defs _ _).mono (fun r hr => hr.1) (Cert.KernelIdeal.Run.run (F := Ideal) m g)
  · refine (θ_run Cert.ReferenceIdeal.defs _ _).mono (fun r hr c => ?_) (Cert.ReferenceIdeal.Value.run (F := Ideal) m' g')
    obtain ⟨h0, h1, h2, h3, ha⟩ := hr c
    exact ⟨h0.trans (eq0 (H c) (R c)), h1.trans (eq1 (H c) (R c)), h2.trans (eq2 (H c) (R c)), h3.trans (eq3 (H c) (R c)), ha⟩

end Cert.ValueClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run

public import proofs.«01_k».proof.Proof.KernelRun
public import proofs.«01_k».proof.Proof.KernelIdealRun
public import proofs.«01_k».proof.Proof.Value

public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

/-- The kernel's frame: it runs, leaves its arguments as they were and every counter at zero. -/
theorem frame_kernel : Cert.quiescent_Kernel := fun m ρ _ =>
  (θ_run Cert.Kernel.defs _ _).mono (fun r h => ⟨fun c => (h.1 c).2.2.2.2, h.2⟩) (Cert.Kernel.Run.run (F := Bits) m ρ)

/-- The ideal kernel's frame. -/
theorem frame_ideal : Cert.quiescent_KernelIdeal := fun m ρ _ =>
  (θ_run Cert.KernelIdeal.defs _ _).mono (fun r h => ⟨fun c => (h.1 c).2.2.2.2, h.2⟩) (Cert.KernelIdeal.Run.run (F := Ideal) m ρ)

/-- The reference's frame: a program without semaphores. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_finite.facts, frame_kernel,
  frame_ideal, fun m ρ _ => frame_ideal m ρ trivial, frame_ref, fun m ρ _ => frame_ref m ρ trivial, trivial,
  @Cert.ValueClaim.value Cert.KernelIdeal.Gen.facts Cert.ReferenceIdeal.Gen.facts Cert.Pre_finite.facts⟩

end Cert.Proof

end
